-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_zero_biases [hPre_zero_biases : Cert.Pre_zero_biases.Facts] (m : (ℓ : Loc Cert.KernelIdeal.nD Cert.KernelIdeal.τ Cert.KernelIdeal.sig) → Buf (Elt Ideal) ℓ) : Prop :=
  ∀ c : Dev Cert.KernelIdeal.nD,
    (Cert.Pre_zero_biases.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_zero_biases [hPre_zero_biases : Cert.Pre_zero_biases.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_zero_biases.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_KernelIdeal_pre_zero_biases [hKernelIdeal : Cert.KernelIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero_biases m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def quiescent_ReferenceIdeal_pre_zero_biases [hReferenceIdeal : Cert.ReferenceIdeal.Facts] [hPre_zero_biases : Cert.Pre_zero_biases.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_zero_biases m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))
      ∧ r.2.sem = fun _ => 0)

def preserves_Kernel_KernelIdeal : Prop :=
  True

def algebraic_KernelIdeal_ReferenceIdeal_pre_zero_biases [hKernelIdeal : Cert.KernelIdeal.Facts] [hReferenceIdeal : Cert.ReferenceIdeal.Facts] [hPre_zero_biases : Cert.Pre_zero_biases.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_zero_biases m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_zero_biases : Cert.Pre_zero_biases.Facts),
    quiescent_Kernel (hKernel := hKernel)
    ∧ quiescent_KernelIdeal (hKernelIdeal := hKernelIdeal)
    ∧ quiescent_KernelIdeal_pre_zero_biases (hKernelIdeal := hKernelIdeal) (hPre_zero_biases := hPre_zero_biases)
    ∧ quiescent_ReferenceIdeal (hReferenceIdeal := hReferenceIdeal)
    ∧ quiescent_ReferenceIdeal_pre_zero_biases (hReferenceIdeal := hReferenceIdeal) (hPre_zero_biases := hPre_zero_biases)
    ∧ preserves_Kernel_KernelIdeal
    ∧ algebraic_KernelIdeal_ReferenceIdeal_pre_zero_biases (hKernelIdeal := hKernelIdeal) (hReferenceIdeal := hReferenceIdeal) (hPre_zero_biases := hPre_zero_biases)
-- ==== Pre_zero_biases.lean ====
abbrev S16x32x256x128 : Shape := ⟨4, ![16, 32, 256, 128]⟩
abbrev S128x128 : Shape := ⟨2, ![128, 128]⟩
abbrev S128 : Shape := ⟨1, ![128]⟩
abbrev S32x128 : Shape := ⟨2, ![32, 128]⟩
abbrev S32 : Shape := ⟨1, ![32]⟩
abbrev S64x32 : Shape := ⟨2, ![64, 32]⟩
abbrev S64 : Shape := ⟨1, ![64]⟩
abbrev S1x64 : Shape := ⟨2, ![1, 64]⟩
abbrev S1 : Shape := ⟨1, ![1]⟩
abbrev S64x3 : Shape := ⟨2, ![64, 3]⟩
abbrev S32x64 : Shape := ⟨2, ![32, 64]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S32 : S_.BroadcastsInDim S32 (![] : Fin 0 → Fin S32.rank)
  reducesTo_S32_S_d0 : S32.ReducesTo [0] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_

variable [Facts]

def fn_part3 {F : FTy → Type} [FloatOps F] (main_arg26 : FVec F S1 .f32) (main_v46 : IVec S_ 1) (main_cst_22 : FVec F S_ .f32) : IVec S_ 1 :=
  let main_v47 : FVec F S1 .f32 := broadcastInDim S1 ![] bcast_S_S1 main_cst_22
  let main_v48 : IVec S1 1 := cmpf .oeq main_arg26 main_v47
  let main_c_23 : IVec S_ 1 := constantI S_ 1 1#1
  let main_v49 : IVec S_ 1 := (fun x v => Host.reduce IntOp.andi x v reducesTo_S1_S_d0 h_S_) main_v48 main_c_23
  let main_v50 : IVec S_ 1 := andi main_v46 main_v49
  main_v50

def fn_part2 {F : FTy → Type} [FloatOps F] (main_arg18 : FVec F S64 .f32) (main_arg20 : FVec F S1 .f32) (main_arg22 : FVec F S64 .f32) (main_arg24 : FVec F S32 .f32) (main_arg26 : FVec F S1 .f32) (main_v30 : IVec S_ 1) (main_cst_14 : FVec F S_ .f32) : IVec S_ 1 :=
  let main_v31 : FVec F S64 .f32 := broadcastInDim S64 ![] bcast_S_S64 main_cst_14
  let main_v32 : IVec S64 1 := cmpf .oeq main_arg18 main_v31
  let main_c_15 : IVec S_ 1 := constantI S_ 1 1#1
  let main_v33 : IVec S_ 1 := (fun x v => Host.reduce IntOp.andi x v reducesTo_S64_S_d0 h_S_) main_v32 main_c_15
  let main_v34 : IVec S_ 1 := andi main_v30 main_v33
  let main_cst_16 : FVec F S_ .f32 := constant S_ .f32 0x00000000#32
  let main_v35 : FVec F S1 .f32 := broadcastInDim S1 ![] bcast_S_S1 main_cst_16
  let main_v36 : IVec S1 1 := cmpf .oeq main_arg20 main_v35
  let main_c_17 : IVec S_ 1 := constantI S_ 1 1#1
  let main_v37 : IVec S_ 1 := (fun x v => Host.reduce IntOp.andi x v reducesTo_S1_S_d0 h_S_) main_v36 main_c_17
  let main_v38 : IVec S_ 1 := andi main_v34 main_v37
  let main_cst_18 : FVec F S_ .f32 := constant S_ .f32 0x00000000#32
  let main_v39 : FVec F S64 .f32 := broadcastInDim S64 ![] bcast_S_S64 main_cst_18
  let main_v40 : IVec S64 1 := cmpf .oeq main_arg22 main_v39
  let main_c_19 : IVec S_ 1 := constantI S_ 1 1#1
  let main_v41 : IVec S_ 1 := (fun x v => Host.reduce IntOp.andi x v reducesTo_S64_S_d0 h_S_) main_v40 main_c_19
  let main_v42 : IVec S_ 1 := andi main_v38 main_v41
  let main_cst_20 : FVec F S_ .f32 := constant S_ .f32 0x00000000#32
  let main_v43 : FVec F S32 .f32 := broadcastInDim S32 ![] bcast_S_S32 main_cst_20
  let main_v44 : IVec S32 1 := cmpf .oeq main_arg24 main_v43
  let main_c_21 : IVec S_ 1 := constantI S_ 1 1#1
  let main_v45 : IVec S_ 1 := (fun x v => Host.reduce IntOp.andi x v reducesTo_S32_S_d0 h_S_) main_v44 main_c_21
  let main_v46 : IVec S_ 1 := andi main_v42 main_v45
  let main_cst_22 : FVec F S_ .f32 := constant S_ .f32 0x00000000#32
  fn_part3 (F := F) main_arg26 main_v46 main_cst_22

def fn_part1 {F : FTy → Type} [FloatOps F] (main_arg10 : FVec F S64 .f32) (main_arg12 : FVec F S1 .f32) (main_arg14 : FVec F S64 .f32) (main_arg16 : FVec F S1 .f32) (main_arg18 : FVec F S64 .f32) (main_arg20 : FVec F S1 .f32) (main_arg22 : FVec F S64 .f32) (main_arg24 : FVec F S32 .f32) (main_arg26 : FVec F S1 .f32) (main_v14 : IVec S_ 1) (main_cst_6 : FVec F S_ .f32) : IVec S_ 1 :=
  let main_v15 : FVec F S64 .f32 := broadcastInDim S64 ![] bcast_S_S64 main_cst_6
  let main_v16 : IVec S64 1 := cmpf .oeq main_arg10 main_v15
  let main_c_7 : IVec S_ 1 := constantI S_ 1 1#1
  let main_v17 : IVec S_ 1 := (fun x v => Host.reduce IntOp.andi x v reducesTo_S64_S_d0 h_S_) main_v16 main_c_7
  let main_v18 : IVec S_ 1 := andi main_v14 main_v17
  let main_cst_8 : FVec F S_ .f32 := constant S_ .f32 0x00000000#32
  let main_v19 : FVec F S1 .f32 := broadcastInDim S1 ![] bcast_S_S1 main_cst_8
  let main_v20 : IVec S1 1 := cmpf .oeq main_arg12 main_v19
  let main_c_9 : IVec S_ 1 := constantI S_ 1 1#1
  let main_v21 : IVec S_ 1 := (fun x v => Host.reduce IntOp.andi x v reducesTo_S1_S_d0 h_S_) main_v20 main_c_9
  let main_v22 : IVec S_ 1 := andi main_v18 main_v21
  let main_cst_10 : FVec F S_ .f32 := constant S_ .f32 0x00000000#32
  let main_v23 : FVec F S64 .f32 := broadcastInDim S64 ![] bcast_S_S64 main_cst_10
  let main_v24 : IVec S64 1 := cmpf .oeq main_arg14 main_v23
  let main_c_11 : IVec S_ 1 := constantI S_ 1 1#1
  let main_v25 : IVec S_ 1 := (fun x v => Host.reduce IntOp.andi x v reducesTo_S64_S_d0 h_S_) main_v24 main_c_11
  let main_v26 : IVec S_ 1 := andi main_v22 main_v25
  let main_cst_12 : FVec F S_ .f32 := constant S_ .f32 0x00000000#32
  let main_v27 : FVec F S1 .f32 := broadcastInDim S1 ![] bcast_S_S1 main_cst_12
  let main_v28 : IVec S1 1 := cmpf .oeq main_arg16 main_v27
  let main_c_13 : IVec S_ 1 := constantI S_ 1 1#1
  let main_v29 : IVec S_ 1 := (fun x v => Host.reduce IntOp.andi x v reducesTo_S1_S_d0 h_S_) main_v28 main_c_13
  let main_v30 : IVec S_ 1 := andi main_v26 main_v29
  let main_cst_14 : FVec F S_ .f32 := constant S_ .f32 0x00000000#32
  fn_part2 (F := F) main_arg18 main_arg20 main_arg22 main_arg24 main_arg26 main_v30 main_cst_14

def fn {F : FTy → Type} [FloatOps F] (main_arg0 : FVec F S16x32x256x128 .f32) (main_arg1 : FVec F S128x128 .f32) (main_arg2 : FVec F S128 .f32) (main_arg3 : FVec F S32x128 .f32) (main_arg4 : FVec F S32 .f32) (main_arg5 : FVec F S128x128 .f32) (main_arg6 : FVec F S128 .f32) (main_arg7 : FVec F S32x128 .f32) (main_arg8 : FVec F S32 .f32) (main_arg9 : FVec F S64x32 .f32) (main_arg10 : FVec F S64 .f32) (main_arg11 : FVec F S1x64 .f32) (main_arg12 : FVec F S1 .f32) (main_arg13 : FVec F S64x32 .f32) (main_arg14 : FVec F S64 .f32) (main_arg15 : FVec F S1x64 .f32) (main_arg16 : FVec F S1 .f32) (main_arg17 : FVec F S64x32 .f32) (main_arg18 : FVec F S64 .f32) (main_arg19 : FVec F S1x64 .f32) (main_arg20 : FVec F S1 .f32) (main_arg21 : FVec F S64x3 .f32) (main_arg22 : FVec F S64 .f32) (main_arg23 : FVec F S32x64 .f32) (main_arg24 : FVec F S32 .f32) (main_arg25 : FVec F S1x64 .f32) (main_arg26 : FVec F S1 .f32) : IVec S_ 1 :=
  let main_cst : FVec F S_ .f32 := constant S_ .f32 0x00000000#32
  let main_v0 : FVec F S128 .f32 := broadcastInDim S128 ![] bcast_S_S128 main_cst
  let main_v1 : IVec S128 1 := cmpf .oeq main_arg2 main_v0
  let main_c : IVec S_ 1 := constantI S_ 1 1#1
  let main_v2 : IVec S_ 1 := (fun x v => Host.reduce IntOp.andi x v reducesTo_S128_S_d0 h_S_) main_v1 main_c
  let main_cst_0 : FVec F S_ .f32 := constant S_ .f32 0x00000000#32
  let main_v3 : FVec F S32 .f32 := broadcastInDim S32 ![] bcast_S_S32 main_cst_0
  let main_v4 : IVec S32 1 := cmpf .oeq main_arg4 main_v3
  let main_c_1 : IVec S_ 1 := constantI S_ 1 1#1
  let main_v5 : IVec S_ 1 := (fun x v => Host.reduce IntOp.andi x v reducesTo_S32_S_d0 h_S_) main_v4 main_c_1
  let main_v6 : IVec S_ 1 := andi main_v2 main_v5
  let main_cst_2 : FVec F S_ .f32 := constant S_ .f32 0x00000000#32
  let main_v7 : FVec F S128 .f32 := broadcastInDim S128 ![] bcast_S_S128 main_cst_2
  let main_v8 : IVec S128 1 := cmpf .oeq main_arg6 main_v7
  let main_c_3 : IVec S_ 1 := constantI S_ 1 1#1
  let main_v9 : IVec S_ 1 := (fun x v => Host.reduce IntOp.andi x v reducesTo_S128_S_d0 h_S_) main_v8 main_c_3
  let main_v10 : IVec S_ 1 := andi main_v6 main_v9
  let main_cst_4 : FVec F S_ .f32 := constant S_ .f32 0x00000000#32
  let main_v11 : FVec F S32 .f32 := broadcastInDim S32 ![] bcast_S_S32 main_cst_4
  let main_v12 : IVec S32 1 := cmpf .oeq main_arg8 main_v11
  let main_c_5 : IVec S_ 1 := constantI S_ 1 1#1
  let main_v13 : IVec S_ 1 := (fun x v => Host.reduce IntOp.andi x v reducesTo_S32_S_d0 h_S_) main_v12 main_c_5
  let main_v14 : IVec S_ 1 := andi main_v10 main_v13
  let main_cst_6 : FVec F S_ .f32 := constant S_ .f32 0x00000000#32
  fn_part1 (F := F) main_arg10 main_arg12 main_arg14 main_arg16 main_arg18 main_arg20 main_arg22 main_arg24 main_arg26 main_v14 main_cst_6
-- ==== Kernel.lean ====
abbrev S16x32x256x128 : Shape := ⟨4, ![16, 32, 256, 128]⟩
abbrev S128x128 : Shape := ⟨2, ![128, 128]⟩
abbrev S128 : Shape := ⟨1, ![128]⟩
abbrev S32x128 : Shape := ⟨2, ![32, 128]⟩
abbrev S32 : Shape := ⟨1, ![32]⟩
abbrev S64x32 : Shape := ⟨2, ![64, 32]⟩
abbrev S64 : Shape := ⟨1, ![64]⟩
abbrev S1x64 : Shape := ⟨2, ![1, 64]⟩
abbrev S1 : Shape := ⟨1, ![1]⟩
abbrev S64x3 : Shape := ⟨2, ![64, 3]⟩
abbrev S32x64 : Shape := ⟨2, ![32, 64]⟩
abbrev S131072x128 : Shape := ⟨2, ![131072, 128]⟩
abbrev S512x1 : Shape := ⟨2, ![512, 1]⟩
abbrev S16384x128 : Shape := ⟨2, ![16384, 128]⟩
abbrev S512x64 : Shape := ⟨2, ![512, 64]⟩
abbrev S128x256 : Shape := ⟨2, ![128, 256]⟩
abbrev S256x128 : Shape := ⟨2, ![256, 128]⟩
abbrev S64x1 : Shape := ⟨2, ![64, 1]⟩
abbrev S3x64 : Shape := ⟨2, ![3, 64]⟩
abbrev S128x32 : Shape := ⟨2, ![128, 32]⟩
abbrev S8192x128 : Shape := ⟨2, ![8192, 128]⟩
abbrev S8192x256 : Shape := ⟨2, ![8192, 256]⟩
abbrev S32x256x128 : Shape := ⟨3, ![32, 256, 128]⟩
abbrev S512x32 : Shape := ⟨2, ![512, 32]⟩
abbrev S512x3 : Shape := ⟨2, ![512, 3]⟩
abbrev S32x1 : Shape := ⟨2, ![32, 1]⟩
abbrev S16x32 : Shape := ⟨2, ![16, 32]⟩

abbrev nBuf : Space → Nat
  | .hbm => 30
  | .vmem => 28
  | .smem => 0
  | _ => 0

abbrev bufTy : (tb : Table) → Fin (tcTables nBuf tb) → BufTy
  | .hbm, ⟨0, _⟩ => ⟨S16x32x256x128, .f32⟩
  | .hbm, ⟨1, _⟩ => ⟨S128x128, .f32⟩
  | .hbm, ⟨2, _⟩ => ⟨S128, .f32⟩
  | .hbm, ⟨3, _⟩ => ⟨S32x128, .f32⟩
  | .hbm, ⟨4, _⟩ => ⟨S32, .f32⟩
  | .hbm, ⟨5, _⟩ => ⟨S128x128, .f32⟩
  | .hbm, ⟨6, _⟩ => ⟨S128, .f32⟩
  | .hbm, ⟨7, _⟩ => ⟨S32x128, .f32⟩
  | .hbm, ⟨8, _⟩ => ⟨S32, .f32⟩
  | .hbm, ⟨9, _⟩ => ⟨S64x32, .f32⟩
  | .hbm, ⟨10, _⟩ => ⟨S64, .f32⟩
  | .hbm, ⟨11, _⟩ => ⟨S1x64, .f32⟩
  | .hbm, ⟨12, _⟩ => ⟨S1, .f32⟩
  | .hbm, ⟨13, _⟩ => ⟨S64x32, .f32⟩
  | .hbm, ⟨14, _⟩ => ⟨S64, .f32⟩
  | .hbm, ⟨15, _⟩ => ⟨S1x64, .f32⟩
  | .hbm, ⟨16, _⟩ => ⟨S1, .f32⟩
  | .hbm, ⟨17, _⟩ => ⟨S64x32, .f32⟩
  | .hbm, ⟨18, _⟩ => ⟨S64, .f32⟩
  | .hbm, ⟨19, _⟩ => ⟨S1x64, .f32⟩
  | .hbm, ⟨20, _⟩ => ⟨S1, .f32⟩
  | .hbm, ⟨21, _⟩ => ⟨S64x3, .f32⟩
  | .hbm, ⟨22, _⟩ => ⟨S64, .f32⟩
  | .hbm, ⟨23, _⟩ => ⟨S32x64, .f32⟩
  | .hbm, ⟨24, _⟩ => ⟨S32, .f32⟩
  | .hbm, ⟨25, _⟩ => ⟨S1x64, .f32⟩
  | .hbm, ⟨26, _⟩ => ⟨S1, .f32⟩
  | .hbm, ⟨27, _⟩ => ⟨S131072x128, .f32⟩
  | .hbm, ⟨28, _⟩ => ⟨S512x1, .f32⟩
  | .hbm, ⟨29, _⟩ => ⟨S16x32, .f32⟩
  | .local _ .vmem, ⟨0, _⟩ => ⟨S16384x128, .f32⟩
  | .local _ .vmem, ⟨1, _⟩ => ⟨S16384x128, .f32⟩
  | .local _ .vmem, ⟨2, _⟩ => ⟨S128x128, .f32⟩
  | .local _ .vmem, ⟨3, _⟩ => ⟨S32x128, .f32⟩
  | .local _ .vmem, ⟨4, _⟩ => ⟨S128x128, .f32⟩
  | .local _ .vmem, ⟨5, _⟩ => ⟨S32x128, .f32⟩
  | .local _ .vmem, ⟨6, _⟩ => ⟨S64x32, .f32⟩
  | .local _ .vmem, ⟨7, _⟩ => ⟨S1x64, .f32⟩
  | .local _ .vmem, ⟨8, _⟩ => ⟨S64x32, .f32⟩
  | .local _ .vmem, ⟨9, _⟩ => ⟨S1x64, .f32⟩
  | .local _ .vmem, ⟨10, _⟩ => ⟨S64x32, .f32⟩
  | .local _ .vmem, ⟨11, _⟩ => ⟨S1x64, .f32⟩
  | .local _ .vmem, ⟨12, _⟩ => ⟨S64x3, .f32⟩
  | .local _ .vmem, ⟨13, _⟩ => ⟨S32x64, .f32⟩
  | .local _ .vmem, ⟨14, _⟩ => ⟨S1x64, .f32⟩
  | .local _ .vmem, ⟨15, _⟩ => ⟨S512x1, .f32⟩
  | .local _ .vmem, ⟨16, _⟩ => ⟨S512x64, .f32⟩
  | .local _ .vmem, ⟨17, _⟩ => ⟨S128x256, .f32⟩
  | .local _ .vmem, ⟨18, _⟩ => ⟨S256x128, .f32⟩
  | .local _ .vmem, ⟨19, _⟩ => ⟨S32x64, .f32⟩
  | .local _ .vmem, ⟨20, _⟩ => ⟨S32x64, .f32⟩
  | .local _ .vmem, ⟨21, _⟩ => ⟨S32x64, .f32⟩
  | .local _ .vmem, ⟨22, _⟩ => ⟨S64x1, .f32⟩
  | .local _ .vmem, ⟨23, _⟩ => ⟨S64x1, .f32⟩
  | .local _ .vmem, ⟨24, _⟩ => ⟨S64x1, .f32⟩
  | .local _ .vmem, ⟨25, _⟩ => ⟨S3x64, .f32⟩
  | .local _ .vmem, ⟨26, _⟩ => ⟨S64x32, .f32⟩
  | .local _ .vmem, ⟨27, _⟩ => ⟨S64x1, .f32⟩
  | _, _ => ⟨S16x32x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c64_i32 : BitVec 32 := 64#32
  let v26 : BitVec 32 := Scalar.muli arg0 c64_i32
  let v27 : Index := Scalar.indexCast v26
  let c0_16 : Index := 0#32
  ![v27.toNat, 0]
def k0_off2 (i : grid0.Coords) : Fin 2 → Nat :=
  let arg0 : BitVec 32 := BitVec.ofNat 32 (i 0).val
  let c64_i32_17 : BitVec 32 := 64#32
  let v32 : BitVec 32 := Scalar.muli arg0 c64_i32_17
  let c32_i32 : BitVec 32 := 32#32
  let v33 : BitVec 32 := Scalar.addi v32 c32_i32
  let v34 : Index := Scalar.indexCast v33
  let c0_18 : Index := 0#32
  ![v34.toNat, 0]
def k0_cond2 (i : grid0.Coords) : BitVec 1 :=
  let arg0 : BitVec 32 := BitVec.ofNat 32 (i 0).val
  let c7_i32 : BitVec 32 := 7#32
  let v38 : BitVec 1 := Scalar.cmpi .eq arg0 c7_i32
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S16x32x256x128 : Shape := ⟨4, ![16, 32, 256, 128]⟩
abbrev S128x128 : Shape := ⟨2, ![128, 128]⟩
abbrev S128 : Shape := ⟨1, ![128]⟩
abbrev S32x128 : Shape := ⟨2, ![32, 128]⟩
abbrev S32 : Shape := ⟨1, ![32]⟩
abbrev S64x32 : Shape := ⟨2, ![64, 32]⟩
abbrev S64 : Shape := ⟨1, ![64]⟩
abbrev S1x64 : Shape := ⟨2, ![1, 64]⟩
abbrev S1 : Shape := ⟨1, ![1]⟩
abbrev S64x3 : Shape := ⟨2, ![64, 3]⟩
abbrev S32x64 : Shape := ⟨2, ![32, 64]⟩
abbrev S131072x128 : Shape := ⟨2, ![131072, 128]⟩
abbrev S512 : Shape := ⟨1, ![512]⟩
abbrev S512x256 : Shape := ⟨2, ![512, 256]⟩
abbrev S131072 : Shape := ⟨1, ![131072]⟩
abbrev S1x128 : Shape := ⟨2, ![1, 128]⟩
abbrev S_ : Shape := ⟨0, ![]⟩
abbrev S128x32 : Shape := ⟨2, ![128, 32]⟩
abbrev S131072x32 : Shape := ⟨2, ![131072, 32]⟩
abbrev S1x32 : Shape := ⟨2, ![1, 32]⟩
abbrev S512x32 : Shape := ⟨2, ![512, 32]⟩
abbrev S131072x1 : Shape := ⟨2, ![131072, 1]⟩
abbrev S512x64 : Shape := ⟨2, ![512, 64]⟩
abbrev S64x1 : Shape := ⟨2, ![64, 1]⟩
abbrev S512x1 : Shape := ⟨2, ![512, 1]⟩
abbrev S1x1 : Shape := ⟨2, ![1, 1]⟩
abbrev S16x32x1 : Shape := ⟨3, ![16, 32, 1]⟩
abbrev S16x32x3 : Shape := ⟨3, ![16, 32, 3]⟩
abbrev S3x64 : Shape := ⟨2, ![3, 64]⟩
abbrev S16x32x64 : Shape := ⟨3, ![16, 32, 64]⟩
abbrev S1x1x64 : Shape := ⟨3, ![1, 1, 64]⟩
abbrev S16x32x32 : Shape := ⟨3, ![16, 32, 32]⟩
abbrev S1x1x32 : Shape := ⟨3, ![1, 1, 32]⟩
abbrev S1x1x1 : Shape := ⟨3, ![1, 1, 1]⟩
abbrev S16x32 : Shape := ⟨2, ![16, 32]⟩

abbrev nBuf : Space → Nat
  | .hbm => 141
  | .vmem => 0
  | .smem => 0
  | _ => 0

abbrev hbmTy0_0 (i : Nat) : BufTy := match i % 128 with
  | 0 => ⟨S16x32x256x128, .f32⟩
  | 1 => ⟨S128x128, .f32⟩
  | 2 => ⟨S128, .f32⟩
  | 3 => ⟨S32x128, .f32⟩
  | 4 => ⟨S32, .f32⟩
  | 5 => ⟨S128x128, .f32⟩
  | 6 => ⟨S128, .f32⟩
  | 7 => ⟨S32x128, .f32⟩
  | 8 => ⟨S32, .f32⟩
  | 9 => ⟨S64x32, .f32⟩
  | 10 => ⟨S64, .f32⟩
  | 11 => ⟨S1x64, .f32⟩
  | 12 => ⟨S1, .f32⟩
  | 13 => ⟨S64x32, .f32⟩
  | 14 => ⟨S64, .f32⟩
  | 15 => ⟨S1x64, .f32⟩
  | 16 => ⟨S1, .f32⟩
  | 17 => ⟨S64x32, .f32⟩
  | 18 => ⟨S64, .f32⟩
  | 19 => ⟨S1x64, .f32⟩
  | 20 => ⟨S1, .f32⟩
  | 21 => ⟨S64x3, .f32⟩
  | 22 => ⟨S64, .f32⟩
  | 23 => ⟨S32x64, .f32⟩
  | 24 => ⟨S32, .f32⟩
  | 25 => ⟨S1x64, .f32⟩
  | 26 => ⟨S1, .f32⟩
  | 27 => ⟨S131072x128, .f32⟩
  | 28 => ⟨S512, .i32⟩
  | 29 => ⟨S512x256, .i32⟩
  | 30 => ⟨S131072, .i32⟩
  | 31 => ⟨S128x128, .f32⟩
  | 32 => ⟨S131072x128, .f32⟩
  | 33 => ⟨S1x128, .f32⟩
  | 34 => ⟨S131072x128, .f32⟩
  | 35 => ⟨S131072x128, .f32⟩
  | 36 => ⟨S_, .f32⟩
  | 37 => ⟨S131072x128, .f32⟩
  | 38 => ⟨S131072x128, .f32⟩
  | 39 => ⟨S128x32, .f32⟩
  | 40 => ⟨S131072x32, .f32⟩
  | 41 => ⟨S1x32, .f32⟩
  | 42 => ⟨S131072x32, .f32⟩
  | 43 => ⟨S131072x32, .f32⟩
  | 44 => ⟨S_, .f32⟩
  | 45 => ⟨S131072x32, .f32⟩
  | 46 => ⟨S131072x32, .f32⟩
  | 47 => ⟨S_, .f32⟩
  | 48 => ⟨S512x32, .f32⟩
  | 49 => ⟨S131072x1, .i32⟩
  | 50 => ⟨S512x32, .f32⟩
  | 51 => ⟨S32x64, .f32⟩
  | 52 => ⟨S512x64, .f32⟩
  | 53 => ⟨S1x64, .f32⟩
  | 54 => ⟨S512x64, .f32⟩
  | 55 => ⟨S512x64, .f32⟩
  | 56 => ⟨S_, .f32⟩
  | 57 => ⟨S512x64, .f32⟩
  | 58 => ⟨S512x64, .f32⟩
  | 59 => ⟨S64x1, .f32⟩
  | 60 => ⟨S512x1, .f32⟩
  | 61 => ⟨S1x1, .f32⟩
  | 62 => ⟨S512x1, .f32⟩
  | 63 => ⟨S512x1, .f32⟩
  | 64 => ⟨S512, .f32⟩
  | 65 => ⟨S32x64, .f32⟩
  | 66 => ⟨S512x64, .f32⟩
  | 67 => ⟨S1x64, .f32⟩
  | 68 => ⟨S512x64, .f32⟩
  | 69 => ⟨S512x64, .f32⟩
  | 70 => ⟨S_, .f32⟩
  | 71 => ⟨S512x64, .f32⟩
  | 72 => ⟨S512x64, .f32⟩
  | 73 => ⟨S64x1, .f32⟩
  | 74 => ⟨S512x1, .f32⟩
  | 75 => ⟨S1x1, .f32⟩
  | 76 => ⟨S512x1, .f32⟩
  | 77 => ⟨S512x1, .f32⟩
  | 78 => ⟨S512, .f32⟩
  | 79 => ⟨S32x64, .f32⟩
  | 80 => ⟨S512x64, .f32⟩
  | 81 => ⟨S1x64, .f32⟩
  | 82 => ⟨S512x64, .f32⟩
  | 83 => ⟨S512x64, .f32⟩
  | 84 => ⟨S_, .f32⟩
  | 85 => ⟨S512x64, .f32⟩
  | 86 => ⟨S512x64, .f32⟩
  | 87 => ⟨S64x1, .f32⟩
  | 88 => ⟨S512x1, .f32⟩
  | 89 => ⟨S1x1, .f32⟩
  | 90 => ⟨S512x1, .f32⟩
  | 91 => ⟨S512x1, .f32⟩
  | 92 => ⟨S512, .f32⟩
  | 93 => ⟨S16x32x1, .f32⟩
  | 94 => ⟨S16x32x1, .f32⟩
  | 95 => ⟨S16x32x1, .f32⟩
  | 96 => ⟨S16x32x3, .f32⟩
  | 97 => ⟨S3x64, .f32⟩
  | 98 => ⟨S16x32x64, .f32⟩
  | 99 => ⟨S1x1x64, .f32⟩
  | 100 => ⟨S16x32x64, .f32⟩
  | 101 => ⟨S16x32x64, .f32⟩
  | 102 => ⟨S_, .f32⟩
  | 103 => ⟨S16x32x64, .f32⟩
  | 104 => ⟨S16x32x64, .f32⟩
  | 105 => ⟨S64x32, .f32⟩
  | 106 => ⟨S16x32x32, .f32⟩
  | 107 => ⟨S1x1x32, .f32⟩
  | 108 => ⟨S16x32x32, .f32⟩
  | 109 => ⟨S16x32x32, .f32⟩
  | 110 => ⟨S_, .f32⟩
  | 111 => ⟨S16x32x32, .f32⟩
  | 112 => ⟨S16x32x32, .f32⟩
  | 113 => ⟨S128x128, .f32⟩
  | 114 => ⟨S131072x128, .f32⟩
  | 115 => ⟨S1x128, .f32⟩
  | 116 => ⟨S131072x128, .f32⟩
  | 117 => ⟨S131072x128, .f32⟩
  | 118 => ⟨S_, .f32⟩
  | 119 => ⟨S131072x128, .f32⟩
  | 120 => ⟨S131072x128, .f32⟩
  | 121 => ⟨S128x32, .f32⟩
  | 122 => ⟨S131072x32, .f32⟩
  | 123 => ⟨S1x32, .f32⟩
  | 124 => ⟨S131072x32, .f32⟩
  | 125 => ⟨S131072x32, .f32⟩
  | 126 => ⟨S_, .f32⟩
  | 127 => ⟨S131072x32, .f32⟩
  | _ => ⟨S16x32x256x128, .f32⟩

abbrev hbmTy0_1 (i : Nat) : BufTy := match i % 128 with
  | 0 => ⟨S131072x32, .f32⟩
  | 1 => ⟨S_, .f32⟩
  | 2 => ⟨S512x32, .f32⟩
  | 3 => ⟨S131072x1, .i32⟩
  | 4 => ⟨S512x32, .f32⟩
  | 5 => ⟨S16x32x32, .f32⟩
  | 6 => ⟨S16x32x64, .f32⟩
  | 7 => ⟨S64x1, .f32⟩
  | 8 => ⟨S16x32x1, .f32⟩
  | 9 => ⟨S1x1x1, .f32⟩
  | 10 => ⟨S16x32x1, .f32⟩
  | 11 => ⟨S16x32x1, .f32⟩
  | 12 => ⟨S16x32, .f32⟩
  | _ => ⟨S16x32x256x128, .f32⟩

abbrev hbmTy (i : Nat) : BufTy := match i / 128 with
  | 0 => hbmTy0_0 i
  | 1 => hbmTy0_1 i
  | _ => ⟨S16x32x256x128, .f32⟩

abbrev bufTy : (tb : Table) → Fin (tcTables nBuf tb) → BufTy
  | .hbm, ⟨i, _⟩ => hbmTy i
  | _, _ => ⟨S16x32x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_call0_cst : Ref sig .tc := ⟨.hbm, 36, rfl⟩
abbrev main_call0_v0 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_call1_cst : Ref sig .tc := ⟨.hbm, 44, rfl⟩
abbrev main_call1_v0 : Ref sig .tc := ⟨.hbm, 45, rfl⟩
abbrev main_v15 : Ref sig .tc := ⟨.hbm, 46, rfl⟩
abbrev main_cst : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_call2_cst : Ref sig .tc := ⟨.hbm, 56, rfl⟩
abbrev main_call2_v0 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_call3_cst : Ref sig .tc := ⟨.hbm, 70, rfl⟩
abbrev main_call3_v0 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_call4_cst : Ref sig .tc := ⟨.hbm, 84, rfl⟩
abbrev main_call4_v0 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_call5_cst : Ref sig .tc := ⟨.hbm, 102, rfl⟩
abbrev main_call5_v0 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_call6_cst : Ref sig .tc := ⟨.hbm, 110, rfl⟩
abbrev main_call6_v0 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_call7_cst : Ref sig .tc := ⟨.hbm, 118, rfl⟩
abbrev main_call7_v0 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_call8_cst : Ref sig .tc := ⟨.hbm, 126, rfl⟩
abbrev main_call8_v0 : Ref sig .tc := ⟨.hbm, 127, rfl⟩
abbrev main_v82 : Ref sig .tc := ⟨.hbm, 128, rfl⟩
abbrev main_cst_0 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩

abbrev nD : Nat := 1
abbrev τ : Topo := Topo.v7x

variable {F : FTy → Type} [FloatOps F]
-- ==== Proof.Memory.lean ====
/- The kernel's body as a transformer of named buffer contents: the three cases of its two branches. -/
module

public import proofs.«01_k».proof.Proof.Gen.KernelIdeal.Frame
public import proofs.«01_k».proof.Proof.Gen.KernelIdeal.Skeleton
public import Idealize.ShloMosaic.Lib.VecWindow
public import Idealize.ShloMosaic.Lib.WordCmp
public import Idealize.ShloMosaic.Lib.Tactic

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen VecWindow

variable {F : FTy → Type} [FloatOps F]

local notation "𝕄" => MT nD τ sig Unit (Elt F) ℕ (UR sig nD τ) ℕ

/-- The first branch's condition. -/
abbrev isFirst (i : grid0.Coords) : Prop :=
  (Scalar.cmpi .ne (Scalar.extui (Scalar.cmpi .eq (BitVec.ofNat 32 (i 0).val) 0#32)) 0#32) = 1#1

/-- It holds at point 0 only. -/
theorem isFirst_iff : ∀ t : Fin cfg0.N, isFirst (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e1 : t.val = 0 ↔ t.val % 8 = 0 := by omega
    rw [e1]
    simp only [isFirst, e0]
    word_cmp
   : ∀ t : Fin grid0.N, isFirst (grid0.coords t) ↔ t.val = 0)

/-- The second branch's condition. -/
abbrev isLast (i : grid0.Coords) : Prop := k0_cond2 i = 1#1

/-- It holds at point 7 only. -/
theorem isLast_iff : ∀ t : Fin cfg0.N, isLast (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    have e1 : t.val = 7 ↔ t.val % 8 = 7 := by omega
    rw [e1]
    simp only [isLast, k0_cond2, e0]
    word_cmp
   : ∀ t : Fin grid0.N, isLast (grid0.coords t) ↔ t.val = 7)

/-- The upper 8192 rows of a block of the input. -/
def upper (x : Vec F S16384x128 .f32) : Vec F S8192x128 .f32 :=
  window x ![0, 0] S8192x128.size inb_S16384x128_S8192x128_0_0

/-- The lower 8192 rows of a block of the input. -/
def lower (x : Vec F S16384x128 .f32) : Vec F S8192x128 .f32 :=
  window x ![8192, 0] S8192x128.size inb_S16384x128_S8192x128_8192_0

/-- The pooled rows with point `i`'s two groups of 32 rows put there. -/
def pooledStep (i : grid0.Coords) (p : Vec F S512x64 .f32) (w1 : Vec F S128x256 .f32) (w2 : Vec F S256x128 .f32)
    (x : Vec F S16384x128 .f32) : Vec F S512x64 .f32 :=
  put (put p (k0_off1 i) S32x64.size (k0_pay20 w1 w2 (upper x))) (k0_off2 i) S32x64.size
    (k0_pay1 (k0_pay21 w1 w2 (lower x)))

/-- The first layer's weights side by side. -/
def firstW (a b : Vec F S128x128 .f32) : Vec F S128x256 .f32 :=
  put (put (fun _ => Scalar.ofBits .f32 0x00000000#32) ![0, 0] S128x128.size (k0_pay3 a)) ![0, 128] S128x128.size (k0_pay4 b)

/-- The second layer's weights on the block diagonal. -/
def secondW (a b : Vec F S32x128 .f32) : Vec F S256x128 .f32 :=
  put (put (k0_pay5 (F := F)) ![0, 0] S128x32.size (k0_pay6 a)) ![128, 32] S128x32.size (k0_pay7 b)

/-- A row-slice store after another, of payloads computed from what the buffers read, leaves the pooled rows of the
    point. -/
theorem read_pooledStep (i : grid0.Coords) (v : View sig .tc .vmem S512x64 .f32) (f : v.ty.Contents (Elt F))
    {p : Vec F S512x64 .f32} {w1 w1' : Vec F S128x256 .f32} {w2 w2' : Vec F S256x128 .f32}
    {x : Vec F S16384x128 .f32} {u l : Vec F S8192x128 .f32} (hp : v.read (Elt F) f = p) (h1 : w1' = w1) (h2 : w2' = w2)
    (hu : u = upper x) (hl : l = lower x) :
    v.read (Elt F) (v.writes (Elt F) f
      [⟨Rect.unit (s := S512x64) (k0_off2 i) S32x64.size (k0_off2_inb i), k0_pay1 (k0_pay21 w1' w2' l)⟩,
       ⟨Rect.unit (s := S512x64) (k0_off1 i) S32x64.size (k0_off1_inb i), k0_pay20 w1' w2' u⟩]) = pooledStep i p w1 w2 x := by
  subst h1 h2 hu hl hp
  rw [View.read_writes_cons_put _ _ _ _ _ rfl, View.read_writes_cons_put _ _ _ _ _ rfl, View.writes_nil]
  rfl

/-- What a column store after another leaves is the first layer's weights side by side, whatever was there. -/
theorem read_firstW (v : View sig .tc .vmem S128x256 .f32) (f : v.ty.Contents (Elt F)) {a a' b b' : Vec F S128x128 .f32}
    (ha : a' = a) (hb : b' = b) :
    v.read (Elt F) (v.writes (Elt F) f
      [⟨Rect.unit (s := S128x256) ![0, 128] S128x128.size inb_S128x256_S128x128_0_128, k0_pay4 b'⟩,
       ⟨Rect.unit (s := S128x256) ![0, 0] S128x128.size inb_S128x256_S128x128_0_0, k0_pay3 a'⟩]) = firstW a b := by
  subst ha hb
  rw [View.read_writes_cons_put _ _ _ _ _ rfl, View.read_writes_cons_put _ _ _ _ _ rfl, View.writes_nil]
  funext y
  unfold firstW put
  by_cases h : ∀ a, (![0, 128] : Fin 2 → ℕ) a ≤ (y a).val ∧ (y a).val < (![0, 128] : Fin 2 → ℕ) a + S128x128.size a
  · rw [dif_pos h, dif_pos h]
  · rw [dif_neg h, dif_neg h]
    have hy : ∀ a, (![0, 0] : Fin 2 → ℕ) a ≤ (y a).val ∧ (y a).val < (![0, 0] : Fin 2 → ℕ) a + S128x128.size a := by
      have h0 : (y 0).val < 128 := (y 0).isLt
      have h1 : (y 1).val < 256 := (y 1).isLt
      have hlt : (y 1).val < 128 := by
        by_contra hge
        exact h (Fin.forall_fin_two.mpr ⟨⟨Nat.zero_le _, by simpa using h0⟩, ⟨by simpa using Nat.not_lt.mp hge, by simpa using h1⟩⟩)
      exact Fin.forall_fin_two.mpr ⟨⟨Nat.zero_le _, by simpa using h0⟩, ⟨Nat.zero_le _, by simpa using hlt⟩⟩
    rw [dif_pos hy, dif_pos hy]

/-- What the zeros and the two blocks stored over them leave is the second layer's weights on the block diagonal. -/
theorem read_secondW (v : View sig .tc .vmem S256x128 .f32) (f : v.ty.Contents (Elt F)) {a a' b b' : Vec F S32x128 .f32}
    (ha : a' = a) (hb : b' = b) :
    v.read (Elt F) (v.writes (Elt F) f
      [⟨Rect.unit (s := S256x128) ![128, 32] S128x32.size inb_S256x128_S128x32_128_32, k0_pay7 b'⟩,
       ⟨Rect.unit (s := S256x128) ![0, 0] S128x32.size inb_S256x128_S128x32_0_0, k0_pay6 a'⟩,
       ⟨Rect.unit (s := S256x128) ![0, 0] S256x128.size inb_S256x128_S256x128_0_0, k0_pay5 (F := F)⟩]) = secondW a b := by
  subst ha hb
  rw [View.read_writes_cons_put _ _ _ _ _ rfl, View.read_writes_cons_put _ _ _ _ _ rfl, View.read_writes_full]
  rfl

/-- The epilogue: the rewards' logits from the pooled rows and the transposed weights. -/
def epilogue (p : Vec F S512x64 .f32) (f0 c0 b0 : Vec F S32x64 .f32) (f1 c1 b1 : Vec F S64x1 .f32) (q0 : Vec F S3x64 .f32)
    (q1 : Vec F S64x32 .f32) (q : Vec F S64x1 .f32) : Vec F S512x1 .f32 :=
  k0_pay2 (k0_pay15 p) (k0_pay16 p f0 c0 b0 f1 c1 b1 q0 q1) (k0_pay17 (F := F)) q

/-- A whole store of the epilogue of what the buffers read leaves the epilogue of the named contents. -/
theorem read_epilogue (v : View sig .tc .vmem S512x1 .f32) (f : v.ty.Contents (Elt F)) {p p' : Vec F S512x64 .f32}
    {f0 f0' c0 c0' b0 b0' : Vec F S32x64 .f32} {f1 f1' c1 c1' b1 b1' : Vec F S64x1 .f32} {q0 q0' : Vec F S3x64 .f32}
    {q1 q1' : Vec F S64x32 .f32} {q q' : Vec F S64x1 .f32} (hp : p' = p) (hf0 : f0' = f0) (hc0 : c0' = c0) (hb0 : b0' = b0)
    (hf1 : f1' = f1) (hc1 : c1' = c1) (hb1 : b1' = b1) (hq0 : q0' = q0) (hq1 : q1' = q1) (hq : q' = q) :
    v.read (Elt F) (v.writes (Elt F) f
      [⟨Rect.unit (s := S512x1) ![0, 0] S512x1.size inb_S512x1_S512x1_0_0,
        k0_pay2 (k0_pay15 p') (k0_pay16 p' f0' c0' b0' f1' c1' b1' q0' q1') (k0_pay17 (F := F)) q'⟩])
      = epilogue p f0 c0 b0 f1 c1 b1 q0 q1 q := by
  subst hp hf0 hc0 hb0 hf1 hc1 hb1 hq0 hq1 hq
  exact View.read_writes_full _ _ _ _ _

end Cert.KernelIdeal.Own
end
-- ==== Proof.Cases.lean ====
/- The kernel's body run from named buffer contents, case by case of its two branches. -/
module

public import proofs.«01_k».proof.Proof.Memory

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen VecWindow

variable {F : FTy → Type} [FloatOps F]

local notation "𝕄" => MT nD τ sig Unit (Elt F) ℕ (UR sig nD τ) ℕ

variable (c : Dev nD) (i : grid0.Coords)
  (arg1 : Memref sig .tc .vmem S16384x128 .f32) (harg1 : arg1.IsWhole)
  (arg2 : Memref sig .tc .vmem S128x128 .f32) (harg2 : arg2.IsWhole)
  (arg3 : Memref sig .tc .vmem S32x128 .f32) (harg3 : arg3.IsWhole)
  (arg4 : Memref sig .tc .vmem S128x128 .f32) (harg4 : arg4.IsWhole)
  (arg5 : Memref sig .tc .vmem S32x128 .f32) (harg5 : arg5.IsWhole)
  (arg6 : Memref sig .tc .vmem S64x32 .f32) (harg6 : arg6.IsWhole)
  (arg7 : Memref sig .tc .vmem S1x64 .f32) (harg7 : arg7.IsWhole)
  (arg8 : Memref sig .tc .vmem S64x32 .f32) (harg8 : arg8.IsWhole)
  (arg9 : Memref sig .tc .vmem S1x64 .f32) (harg9 : arg9.IsWhole)
  (arg10 : Memref sig .tc .vmem S64x32 .f32) (harg10 : arg10.IsWhole)
  (arg11 : Memref sig .tc .vmem S1x64 .f32) (harg11 : arg11.IsWhole)
  (arg12 : Memref sig .tc .vmem S64x3 .f32) (harg12 : arg12.IsWhole)
  (arg13 : Memref sig .tc .vmem S32x64 .f32) (harg13 : arg13.IsWhole)
  (arg14 : Memref sig .tc .vmem S1x64 .f32) (harg14 : arg14.IsWhole)
  (arg15 : Memref sig .tc .vmem S512x1 .f32) (harg15 : arg15.IsWhole)
  (arg16 : Memref sig .tc .vmem S512x64 .f32) (harg16 : arg16.IsWhole)
  (arg17 : Memref sig .tc .vmem S128x256 .f32) (harg17 : arg17.IsWhole)
  (arg18 : Memref sig .tc .vmem S256x128 .f32) (harg18 : arg18.IsWhole)
  (arg19 : Memref sig .tc .vmem S32x64 .f32) (harg19 : arg19.IsWhole)
  (arg20 : Memref sig .tc .vmem S32x64 .f32) (harg20 : arg20.IsWhole)
  (arg21 : Memref sig .tc .vmem S32x64 .f32) (harg21 : arg21.IsWhole)
  (arg22 : Memref sig .tc .vmem S64x1 .f32) (harg22 : arg22.IsWhole)
  (arg23 : Memref sig .tc .vmem S64x1 .f32) (harg23 : arg23.IsWhole)
  (arg24 : Memref sig .tc .vmem S64x1 .f32) (harg24 : arg24.IsWhole)
  (arg25 : Memref sig .tc .vmem S3x64 .f32) (harg25 : arg25.IsWhole)
  (arg26 : Memref sig .tc .vmem S64x32 .f32) (harg26 : arg26.IsWhole)
  (arg27 : Memref sig .tc .vmem S64x1 .f32) (harg27 : arg27.IsWhole)

set_option maxHeartbeats 1000000 in
/-- At a point that is neither the first nor the last the body puts the point's two groups of rows in the pooled
    array, and leaves the input block and the two weight arrays as they were. -/
theorem run_middle (hc0 : ¬isFirst i) (hc1 : ¬isLast i) (x : Vec F S16384x128 .f32) (p : Vec F S512x64 .f32)
    (w1 : Vec F S128x256 .f32) (w2 : Vec F S256x128 .f32) (E : Set ℕ) (K : PUnit → sProp 𝕄) :
    iprop(owns (c : Thread nD τ) arg1 fullShare x ∗ owns (c : Thread nD τ) arg16 fullShare p
        ∗ owns (c : Thread nD τ) arg17 fullShare w1 ∗ owns (c : Thread nD τ) arg18 fullShare w2
        ∗ (iprop(owns (c : Thread nD τ) arg1 fullShare x ∗ owns (c : Thread nD τ) arg16 fullShare (pooledStep i p w1 w2 x)
            ∗ owns (c : Thread nD τ) arg17 fullShare w1 ∗ owns (c : Thread nD τ) arg18 fullShare w2) -∗ K ⟨⟩))
      ⊢ wp frame (wpE (defs₀ (F := F)) Variants.none c none) E
          (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__fused_eq_skeleton]; unfold cc0__fused_skel
  simp only [k0_part4_eq_skeleton]
  unfold owns
  iintro ⟨⟨%f0, %hf0, H0⟩, ⟨%f1, %hf1, H1⟩, ⟨%f2, %hf2, H2⟩, ⟨%f3, %hf3, H3⟩, Hk⟩
  sl_exec (disch := first | sl_exact hc0 | sl_exact hc1)
  sl_step
  iapply Hk
  isplitl [H0]
  · iexists _; isplitr; · ipureintro; exact hf0
    iexact H0
  isplitl [H1]
  · iexists _; isplitr; swap; · iexact H1
    ipureintro
    exact read_pooledStep i _ _ hf1 ((View.readAt_full _ _ _).trans hf2) ((View.readAt_full _ _ _).trans hf3)
      (hf0 ▸ View.readAt_unit _ _ _ rfl _) (hf0 ▸ View.readAt_unit _ _ _ rfl _)
  isplitl [H2]
  · iexists _; isplitr; · ipureintro; exact hf2
    iexact H2
  iexists _; isplitr; · ipureintro; exact hf3
  iexact H3

set_option maxHeartbeats 1000000 in
/-- At the last point the body puts the point's two groups of rows in the pooled array, then stores the epilogue of the
    whole of it in the output's buffer. -/
theorem run_last (hc0 : ¬isFirst i) (hc1 : isLast i) (x : Vec F S16384x128 .f32) (p : Vec F S512x64 .f32)
    (w1 : Vec F S128x256 .f32) (w2 : Vec F S256x128 .f32) (f0 c0 b0 : Vec F S32x64 .f32) (f1 c1 b1 : Vec F S64x1 .f32)
    (q0 : Vec F S3x64 .f32) (q1 : Vec F S64x32 .f32) (q : Vec F S64x1 .f32) (E : Set ℕ) (K : PUnit → sProp 𝕄) :
    iprop(owns (c : Thread nD τ) arg1 fullShare x ∗ (∃ d, owns (c : Thread nD τ) arg15 fullShare d)
        ∗ owns (c : Thread nD τ) arg16 fullShare p
        ∗ owns (c : Thread nD τ) arg17 fullShare w1
        ∗ owns (c : Thread nD τ) arg18 fullShare w2
        ∗ owns (c : Thread nD τ) arg19 fullShare f0
        ∗ owns (c : Thread nD τ) arg20 fullShare c0
        ∗ owns (c : Thread nD τ) arg21 fullShare b0
        ∗ owns (c : Thread nD τ) arg22 fullShare f1
        ∗ owns (c : Thread nD τ) arg23 fullShare c1
        ∗ owns (c : Thread nD τ) arg24 fullShare b1
        ∗ owns (c : Thread nD τ) arg25 fullShare q0
        ∗ owns (c : Thread nD τ) arg26 fullShare q1
        ∗ owns (c : Thread nD τ) arg27 fullShare q
        ∗ (iprop(owns (c : Thread nD τ) arg1 fullShare x
            ∗ owns (c : Thread nD τ) arg15 fullShare (epilogue (pooledStep i p w1 w2 x) f0 c0 b0 f1 c1 b1 q0 q1 q)
            ∗ owns (c : Thread nD τ) arg16 fullShare (pooledStep i p w1 w2 x)
            ∗ owns (c : Thread nD τ) arg17 fullShare w1
            ∗ owns (c : Thread nD τ) arg18 fullShare w2
            ∗ owns (c : Thread nD τ) arg19 fullShare f0
            ∗ owns (c : Thread nD τ) arg20 fullShare c0
            ∗ owns (c : Thread nD τ) arg21 fullShare b0
            ∗ owns (c : Thread nD τ) arg22 fullShare f1
            ∗ owns (c : Thread nD τ) arg23 fullShare c1
            ∗ owns (c : Thread nD τ) arg24 fullShare b1
            ∗ owns (c : Thread nD τ) arg25 fullShare q0
            ∗ owns (c : Thread nD τ) arg26 fullShare q1
            ∗ owns (c : Thread nD τ) arg27 fullShare q) -∗ K ⟨⟩))
      ⊢ wp frame (wpE (defs₀ (F := F)) Variants.none c none) E
          (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__fused_eq_skeleton]; unfold cc0__fused_skel
  simp only [k0_part4_eq_skeleton, k0_part3_eq_skeleton]
  unfold owns
  iintro ⟨⟨%hx, %ex, Hx⟩, ⟨%d, %ho, -, Ho⟩, ⟨%gp, %ep, Hp⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, Hk⟩
  sl_exec (disch := first | sl_exact hc0 | sl_exact hc1)
  sl_step
  iapply Hk
  isplitl [Hx]
  · iexists _; isplitr; · ipureintro; exact ex
    iexact Hx
  isplitl [Ho]
  · iexists _; isplitr; swap; · iexact Ho
    ipureintro
    exact read_epilogue _ _ ((View.readAt_full _ _ _).trans (read_pooledStep i _ _ ep ((View.readAt_full _ _ _).trans e1)
        ((View.readAt_full _ _ _).trans e2) (ex ▸ View.readAt_unit _ _ _ rfl _) (ex ▸ View.readAt_unit _ _ _ rfl _)))
      ((View.readAt_full _ _ _).trans e3) ((View.readAt_full _ _ _).trans e4) ((View.readAt_full _ _ _).trans e5)
      ((View.readAt_full _ _ _).trans e6) ((View.readAt_full _ _ _).trans e7) ((View.readAt_full _ _ _).trans e8)
      ((View.readAt_full _ _ _).trans e9) ((View.readAt_full _ _ _).trans e10) ((View.readAt_full _ _ _).trans e11)
  isplitl [Hp]
  · iexists _; isplitr; swap; · iexact Hp
    ipureintro
    exact read_pooledStep i _ _ ep ((View.readAt_full _ _ _).trans e1) ((View.readAt_full _ _ _).trans e2)
      (ex ▸ View.readAt_unit _ _ _ rfl _) (ex ▸ View.readAt_unit _ _ _ rfl _)
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  isplitl [H9]
  · iexists _; isplitr; · ipureintro; exact e9
    iexact H9
  isplitl [H10]
  · iexists _; isplitr; · ipureintro; exact e10
    iexact H10
  iexists _; isplitr; · ipureintro; exact e11
  iexact H11

set_option maxHeartbeats 2000000 in
/-- At the first point the body leaves the weights, transposed and placed, in the scratch buffers, and puts the point's
    two groups of rows in the pooled array. -/
theorem run_first (hc0 : isFirst i) (hc1 : ¬isLast i) (x : Vec F S16384x128 .f32) (x1 : Vec F S128x128 .f32)
    (x2 : Vec F S32x128 .f32) (x3 : Vec F S128x128 .f32) (x4 : Vec F S32x128 .f32) (x5 : Vec F S64x32 .f32)
    (x6 : Vec F S1x64 .f32) (x7 : Vec F S64x32 .f32) (x8 : Vec F S1x64 .f32) (x9 : Vec F S64x32 .f32)
    (x10 : Vec F S1x64 .f32) (x11 : Vec F S64x3 .f32) (x12 : Vec F S32x64 .f32) (x13 : Vec F S1x64 .f32)
    (p : Vec F S512x64 .f32) (E : Set ℕ) (K : PUnit → sProp 𝕄) :
    iprop(owns (c : Thread nD τ) arg1 fullShare x
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ owns (c : Thread nD τ) arg12 fullShare x11
        ∗ owns (c : Thread nD τ) arg13 fullShare x12
        ∗ owns (c : Thread nD τ) arg14 fullShare x13
        ∗ owns (c : Thread nD τ) arg16 fullShare p
        ∗ (∃ d, owns (c : Thread nD τ) arg17 fullShare d)
        ∗ (∃ d, owns (c : Thread nD τ) arg18 fullShare d)
        ∗ (∃ d, owns (c : Thread nD τ) arg19 fullShare d)
        ∗ (∃ d, owns (c : Thread nD τ) arg20 fullShare d)
        ∗ (∃ d, owns (c : Thread nD τ) arg21 fullShare d)
        ∗ (∃ d, owns (c : Thread nD τ) arg22 fullShare d)
        ∗ (∃ d, owns (c : Thread nD τ) arg23 fullShare d)
        ∗ (∃ d, owns (c : Thread nD τ) arg24 fullShare d)
        ∗ (∃ d, owns (c : Thread nD τ) arg25 fullShare d)
        ∗ (∃ d, owns (c : Thread nD τ) arg26 fullShare d)
        ∗ (∃ d, owns (c : Thread nD τ) arg27 fullShare d)
        ∗ (iprop(owns (c : Thread nD τ) arg1 fullShare x
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare x11
            ∗ owns (c : Thread nD τ) arg13 fullShare x12
            ∗ owns (c : Thread nD τ) arg14 fullShare x13
            ∗ owns (c : Thread nD τ) arg16 fullShare (pooledStep i p (firstW x1 x3) (secondW x2 x4) x)
            ∗ owns (c : Thread nD τ) arg17 fullShare (firstW x1 x3)
            ∗ owns (c : Thread nD τ) arg18 fullShare (secondW x2 x4)
            ∗ owns (c : Thread nD τ) arg19 fullShare (k0_pay8 x5)
            ∗ owns (c : Thread nD τ) arg20 fullShare (k0_pay9 x7)
            ∗ owns (c : Thread nD τ) arg21 fullShare (k0_pay10 x9)
            ∗ owns (c : Thread nD τ) arg22 fullShare (k0_pay11 x6)
            ∗ owns (c : Thread nD τ) arg23 fullShare (k0_pay12 x8)
            ∗ owns (c : Thread nD τ) arg24 fullShare (k0_pay13 x10)
            ∗ owns (c : Thread nD τ) arg25 fullShare (k0_pay14 x11)
            ∗ owns (c : Thread nD τ) arg26 fullShare (k0_pay18 x12)
            ∗ owns (c : Thread nD τ) arg27 fullShare (k0_pay19 x13)) -∗ K ⟨⟩))
      ⊢ wp frame (wpE (defs₀ (F := F)) Variants.none c none) E
          (cc0__fused i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  simp only [cc0__fused_eq_skeleton]; unfold cc0__fused_skel
  simp only [k0_part4_eq_skeleton, k0_part1_eq_skeleton, k0_part2_eq_skeleton]
  unfold owns
  iintro ⟨⟨%g0, %e0, H0⟩, ⟨%g1, %e1, H1⟩, ⟨%g2, %e2, H2⟩, ⟨%g3, %e3, H3⟩, ⟨%g4, %e4, H4⟩, ⟨%g5, %e5, H5⟩, ⟨%g6, %e6, H6⟩, ⟨%g7, %e7, H7⟩, ⟨%g8, %e8, H8⟩, ⟨%g9, %e9, H9⟩, ⟨%g10, %e10, H10⟩, ⟨%g11, %e11, H11⟩, ⟨%g12, %e12, H12⟩, ⟨%g13, %e13, H13⟩, ⟨%gp, %ep, Hp⟩, ⟨%d1, %h1, -, S1⟩, ⟨%d2, %h2, -, S2⟩, ⟨%d3, %h3, -, S3⟩, ⟨%d4, %h4, -, S4⟩, ⟨%d5, %h5, -, S5⟩, ⟨%d6, %h6, -, S6⟩, ⟨%d7, %h7, -, S7⟩, ⟨%d8, %h8, -, S8⟩, ⟨%d9, %h9, -, S9⟩, ⟨%d10, %h10, -, S10⟩, ⟨%d11, %h11, -, S11⟩, Hk⟩
  sl_exec (disch := first | sl_exact hc0 | sl_exact hc1)
  sl_step
  iapply Hk
  isplitl [H0]
  · iexists _; isplitr; · ipureintro; exact e0
    iexact H0
  isplitl [H1]
  · iexists _; isplitr; · ipureintro; exact e1
    iexact H1
  isplitl [H2]
  · iexists _; isplitr; · ipureintro; exact e2
    iexact H2
  isplitl [H3]
  · iexists _; isplitr; · ipureintro; exact e3
    iexact H3
  isplitl [H4]
  · iexists _; isplitr; · ipureintro; exact e4
    iexact H4
  isplitl [H5]
  · iexists _; isplitr; · ipureintro; exact e5
    iexact H5
  isplitl [H6]
  · iexists _; isplitr; · ipureintro; exact e6
    iexact H6
  isplitl [H7]
  · iexists _; isplitr; · ipureintro; exact e7
    iexact H7
  isplitl [H8]
  · iexists _; isplitr; · ipureintro; exact e8
    iexact H8
  isplitl [H9]
  · iexists _; isplitr; · ipureintro; exact e9
    iexact H9
  isplitl [H10]
  · iexists _; isplitr; · ipureintro; exact e10
    iexact H10
  isplitl [H11]
  · iexists _; isplitr; · ipureintro; exact e11
    iexact H11
  isplitl [H12]
  · iexists _; isplitr; · ipureintro; exact e12
    iexact H12
  isplitl [H13]
  · iexists _; isplitr; · ipureintro; exact e13
    iexact H13
  isplitl [Hp]
  · iexists _; isplitr; swap; · iexact Hp
    ipureintro
    exact read_pooledStep i _ _ ep
      ((View.readAt_full _ _ _).trans (read_firstW _ _ ((View.readAt_full _ _ _).trans e1) ((View.readAt_full _ _ _).trans e3)))
      ((View.readAt_full _ _ _).trans (read_secondW _ _ ((View.readAt_full _ _ _).trans e2) ((View.readAt_full _ _ _).trans e4)))
      (e0 ▸ View.readAt_unit _ _ _ rfl _) (e0 ▸ View.readAt_unit _ _ _ rfl _)
  isplitl [S1]
  · iexists _; isplitr; swap; · iexact S1
    ipureintro
    exact read_firstW _ _ ((View.readAt_full _ _ _).trans e1) ((View.readAt_full _ _ _).trans e3)
  isplitl [S2]
  · iexists _; isplitr; swap; · iexact S2
    ipureintro
    exact read_secondW _ _ ((View.readAt_full _ _ _).trans e2) ((View.readAt_full _ _ _).trans e4)
  isplitl [S3]
  · iexists _; isplitr; swap; · iexact S3
    ipureintro
    exact (View.read_writes_full _ _ _ _ _).trans (congrArg k0_pay8 ((View.readAt_full _ _ _).trans e5))
  isplitl [S4]
  · iexists _; isplitr; swap; · iexact S4
    ipureintro
    exact (View.read_writes_full _ _ _ _ _).trans (congrArg k0_pay9 ((View.readAt_full _ _ _).trans e7))
  isplitl [S5]
  · iexists _; isplitr; swap; · iexact S5
    ipureintro
    exact (View.read_writes_full _ _ _ _ _).trans (congrArg k0_pay10 ((View.readAt_full _ _ _).trans e9))
  isplitl [S6]
  · iexists _; isplitr; swap; · iexact S6
    ipureintro
    exact (View.read_writes_full _ _ _ _ _).trans (congrArg k0_pay11 ((View.readAt_full _ _ _).trans e6))
  isplitl [S7]
  · iexists _; isplitr; swap; · iexact S7
    ipureintro
    exact (View.read_writes_full _ _ _ _ _).trans (congrArg k0_pay12 ((View.readAt_full _ _ _).trans e8))
  isplitl [S8]
  · iexists _; isplitr; swap; · iexact S8
    ipureintro
    exact (View.read_writes_full _ _ _ _ _).trans (congrArg k0_pay13 ((View.readAt_full _ _ _).trans e10))
  isplitl [S9]
  · iexists _; isplitr; swap; · iexact S9
    ipureintro
    exact (View.read_writes_full _ _ _ _ _).trans (congrArg k0_pay14 ((View.readAt_full _ _ _).trans e11))
  isplitl [S10]
  · iexists _; isplitr; swap; · iexact S10
    ipureintro
    exact (View.read_writes_full _ _ _ _ _).trans (congrArg k0_pay18 ((View.readAt_full _ _ _).trans e12))
  iexists _; isplitr; swap; · iexact S11
  ipureintro
  exact (View.read_writes_full _ _ _ _ _).trans (congrArg k0_pay19 ((View.readAt_full _ _ _).trans e13))

end Cert.KernelIdeal.Own
end
-- ==== Proof.Pooled.lean ====
/- The pooled array the grid fills, 64 rows a point, and what it holds before every point. -/
module

public import proofs.«01_k».proof.Proof.Memory
public import Idealize.ShloMosaic.Lib.Pointwise.Index

@[expose] public section

set_option maxRecDepth 16384

noncomputable section

namespace Cert.KernelIdeal.Own

open Idealize.ShloMosaic Idealize.ShloMosaic.TcCoe Idealize.ShloMosaic.Tactic
open Idealize.SL.Sem
open Cert.KernelIdeal.Gen VecWindow

variable {F : FTy → Type} [FloatOps F]

/-- The grid coordinate of a point is the point. -/
theorem coords_eq : ∀ t : Fin cfg0.N, (grid0.coords t 0).val = t.val :=
  (fun t => by
    have ht : t.val < 8 := Nat.lt_of_lt_of_eq t.isLt N_0
    have e0 : (grid0.coords t 0).val = t.val / 1 % 8 := Pipeline.Grid.coords_val t 0 (by decide) rfl
    omega
   : ∀ t : Fin grid0.N, (grid0.coords t 0).val = t.val)

/-- The first group of a point starts at row `64 t`. -/
theorem off1_eq (t : Fin cfg0.N) : k0_off1 (grid0.coords t) = ![64 * t.val, 0] := by
  have ht : t.val < 8 := Nat.lt_of_lt_of_eq t.isLt N_0
  have e := coords_eq t
  unfold k0_off1
  simp only [e, Scalar.muli, IntOp.muli, Scalar.indexCast, BitVec.toNat_mul, BitVec.toNat_ofNat]
  congr 1
  omega

/-- The second group of a point starts at row `64 t + 32`. -/
theorem off2_eq (t : Fin cfg0.N) : k0_off2 (grid0.coords t) = ![64 * t.val + 32, 0] := by
  have ht : t.val < 8 := Nat.lt_of_lt_of_eq t.isLt N_0
  have e := coords_eq t
  unfold k0_off2
  simp only [e, Scalar.muli, IntOp.muli, Scalar.addi, IntOp.addi, Scalar.indexCast, BitVec.toNat_mul, BitVec.toNat_add, BitVec.toNat_ofNat]
  congr 1
  omega

/-- 32 whole rows put at row `o`: inside them the put rows, outside what was there. -/
theorem put_rows (p : Vec F S512x64 .f32) (o : ℕ) (w : Vec F S32x64 .f32) (j : S512x64.Idx) :
    put p ![o, 0] S32x64.size w j
      = if h : o ≤ (j 0).val ∧ (j 0).val < o + 32 then w (ix2 ⟨(j 0).val - o, by omega⟩ (j 1)) else p j := by
  have h1 : (j 1).val < 64 := (j 1).isLt
  unfold put
  by_cases h : o ≤ (j 0).val ∧ (j 0).val < o + 32
  · rw [dif_pos h, dif_pos (Fin.forall_fin_two.mpr ⟨h, ⟨Nat.zero_le _, by simpa using h1⟩⟩)]
    congr 1
    funext a
    fin_cases a <;> rfl
  · rw [dif_neg h, dif_neg fun hh => h (hh 0)]

/-- A point's step row by row: the upper half's rows, then the lower half's, then what was there. -/
theorem pooledStep_apply (t : Fin cfg0.N) (p : Vec F S512x64 .f32) (w1 : Vec F S128x256 .f32) (w2 : Vec F S256x128 .f32)
    (x : Vec F S16384x128 .f32) (j : S512x64.Idx) :
    pooledStep (grid0.coords t) p w1 w2 x j
      = if h : 64 * t.val + 32 ≤ (j 0).val ∧ (j 0).val < 64 * t.val + 32 + 32 then
          k0_pay1 (k0_pay21 w1 w2 (lower x)) (ix2 ⟨(j 0).val - (64 * t.val + 32), by omega⟩ (j 1))
        else if h : 64 * t.val ≤ (j 0).val ∧ (j 0).val < 64 * t.val + 32 then
          k0_pay20 w1 w2 (upper x) (ix2 ⟨(j 0).val - 64 * t.val, by omega⟩ (j 1))
        else p j := by
  unfold pooledStep
  rw [off1_eq, off2_eq, put_rows, put_rows]

/-- The point that fills a pooled row. -/
def rowPoint (j : S512x64.Idx) : Fin cfg0.N :=
  ⟨(j 0).val / 64, by rw [show cfg0.N = 8 from N_0]; have : (j 0).val < 512 := (j 0).isLt; omega⟩

/-- The whole pooled array, from the two weight arrays and the blocks of the input. -/
def pooledAll (w1 : Vec F S128x256 .f32) (w2 : Vec F S256x128 .f32) (x : Fin cfg0.N → Vec F S16384x128 .f32) :
    Vec F S512x64 .f32 := fun j =>
  pooledStep (grid0.coords (rowPoint j)) (fun _ => Scalar.ofBits .f32 0x00000000#32) w1 w2 (x (rowPoint j)) j

/-- The rows of the points before `n` hold the whole array's. -/
def Filled (w1 : Vec F S128x256 .f32) (w2 : Vec F S256x128 .f32) (x : Fin cfg0.N → Vec F S16384x128 .f32) (n : ℕ)
    (p : Vec F S512x64 .f32) : Prop :=
  ∀ j : S512x64.Idx, (j 0).val < 64 * n → p j = pooledAll w1 w2 x j

/-- Nothing is asked before the first point. -/
theorem filled_zero (w1 : Vec F S128x256 .f32) (w2 : Vec F S256x128 .f32) (x : Fin cfg0.N → Vec F S16384x128 .f32)
    (p : Vec F S512x64 .f32) : Filled w1 w2 x 0 p := fun j h => absurd h (by omega)

/-- A point's step fills its rows and keeps the rows before. -/
theorem filled_step (w1 : Vec F S128x256 .f32) (w2 : Vec F S256x128 .f32) (x : Fin cfg0.N → Vec F S16384x128 .f32)
    (t : Fin cfg0.N) (p : Vec F S512x64 .f32) (hp : Filled w1 w2 x t.val p) :
    Filled w1 w2 x (t.val + 1) (pooledStep (grid0.coords t) p w1 w2 (x t)) := by
  intro j hj
  by_cases h : (j 0).val < 64 * t.val
  · rw [pooledStep_apply, dif_neg (by omega), dif_neg (by omega)]
    exact hp j h
  · have hr : rowPoint j = t := Fin.ext (by show (j 0).val / 64 = t.val; omega)
    unfold pooledAll
    rw [hr, pooledStep_apply, pooledStep_apply]
    by_cases h2 : 64 * t.val + 32 ≤ (j 0).val ∧ (j 0).val < 64 * t.val + 32 + 32
    · rw [dif_pos h2, dif_pos h2]
    · rw [dif_neg h2, dif_neg h2]
      have h1 : 64 * t.val ≤ (j 0).val ∧ (j 0).val < 64 * t.val + 32 := by omega
      rw [dif_pos h1, dif_pos h1]

/-- After the last point the array is whole. -/
theorem filled_all (w1 : Vec F S128x256 .f32) (w2 : Vec F S256x128 .f32) (x : Fin cfg0.N → Vec F S16384x128 .f32)
    (n : ℕ) (hn : n = 8) (p : Vec F S512x64 .f32) (hp : Filled w1 w2 x n p) : p = pooledAll w1 w2 x :=
  funext fun j => hp j (by have : (j 0).val < 512 := (j 0).isLt; omega)

end Cert.KernelIdeal.Own

end
-- ==== Proof.Run.lean ====
/- The launch of the kernel with what it leaves in its result named: the invariant point by point, the body's
   obligation, the run. -/
module

public import proofs.«01_k».proof.Proof.Cases
public import proofs.«01_k».proof.Proof.Pooled
public import Idealize.ShloMosaic.Lib.Pipeline.FrameBody
public import Idealize.ShloMosaic.Lib.Pipeline.FrameSuffix
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen VecWindow

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The scratch buffers as the body is handed them. -/
abbrev sc0 : Memref sig .tc .vmem S512x64 .f32 := Memref.whole cc0_scratch0
abbrev sc1 : Memref sig .tc .vmem S128x256 .f32 := Memref.whole cc0_scratch1
abbrev sc2 : Memref sig .tc .vmem S256x128 .f32 := Memref.whole cc0_scratch2
abbrev sc3 : Memref sig .tc .vmem S32x64 .f32 := Memref.whole cc0_scratch3
abbrev sc4 : Memref sig .tc .vmem S32x64 .f32 := Memref.whole cc0_scratch4
abbrev sc5 : Memref sig .tc .vmem S32x64 .f32 := Memref.whole cc0_scratch5
abbrev sc6 : Memref sig .tc .vmem S64x1 .f32 := Memref.whole cc0_scratch6
abbrev sc7 : Memref sig .tc .vmem S64x1 .f32 := Memref.whole cc0_scratch7
abbrev sc8 : Memref sig .tc .vmem S64x1 .f32 := Memref.whole cc0_scratch8
abbrev sc9 : Memref sig .tc .vmem S3x64 .f32 := Memref.whole cc0_scratch9
abbrev sc10 : Memref sig .tc .vmem S64x32 .f32 := Memref.whole cc0_scratch10
abbrev sc11 : Memref sig .tc .vmem S64x1 .f32 := Memref.whole cc0_scratch11

/-- Each window's current staging buffer at a point. -/
abbrev ms0 (t : Fin cfg0.N) : Memref sig .tc .vmem S16384x128 .f32 := win0_0.stage (cfg0.slots t 0)
abbrev ms1 (t : Fin cfg0.N) : Memref sig .tc .vmem S128x128 .f32 := win0_1.stage (cfg0.slots t 1)
abbrev ms2 (t : Fin cfg0.N) : Memref sig .tc .vmem S32x128 .f32 := win0_2.stage (cfg0.slots t 2)
abbrev ms3 (t : Fin cfg0.N) : Memref sig .tc .vmem S128x128 .f32 := win0_3.stage (cfg0.slots t 3)
abbrev ms4 (t : Fin cfg0.N) : Memref sig .tc .vmem S32x128 .f32 := win0_4.stage (cfg0.slots t 4)
abbrev ms5 (t : Fin cfg0.N) : Memref sig .tc .vmem S64x32 .f32 := win0_5.stage (cfg0.slots t 5)
abbrev ms6 (t : Fin cfg0.N) : Memref sig .tc .vmem S1x64 .f32 := win0_6.stage (cfg0.slots t 6)
abbrev ms7 (t : Fin cfg0.N) : Memref sig .tc .vmem S64x32 .f32 := win0_7.stage (cfg0.slots t 7)
abbrev ms8 (t : Fin cfg0.N) : Memref sig .tc .vmem S1x64 .f32 := win0_8.stage (cfg0.slots t 8)
abbrev ms9 (t : Fin cfg0.N) : Memref sig .tc .vmem S64x32 .f32 := win0_9.stage (cfg0.slots t 9)
abbrev ms10 (t : Fin cfg0.N) : Memref sig .tc .vmem S1x64 .f32 := win0_10.stage (cfg0.slots t 10)
abbrev ms11 (t : Fin cfg0.N) : Memref sig .tc .vmem S64x3 .f32 := win0_11.stage (cfg0.slots t 11)
abbrev ms12 (t : Fin cfg0.N) : Memref sig .tc .vmem S32x64 .f32 := win0_12.stage (cfg0.slots t 12)
abbrev ms13 (t : Fin cfg0.N) : Memref sig .tc .vmem S1x64 .f32 := win0_13.stage (cfg0.slots t 13)
abbrev ms14 (t : Fin cfg0.N) : Memref sig .tc .vmem S512x1 .f32 := win0_14.stage (cfg0.slots t 14)

/-- The first point. -/
def t0 : Fin cfg0.N := ⟨0, by rw [show cfg0.N = 8 from N_0]; omega⟩

/-- The last point. -/
def t7 : Fin cfg0.N := ⟨7, by rw [show cfg0.N = 8 from N_0]; omega⟩

/-- The first layer's weights as the first point stores them. -/
def wA (c : Dev nD) : Vec F S128x256 .f32 := firstW (iblk m c 1 t0) (iblk m c 3 t0)

/-- The second layer's weights as the first point stores them. -/
def wB (c : Dev nD) : Vec F S256x128 .f32 := secondW (iblk m c 2 t0) (iblk m c 4 t0)

/-- The blocks of the input. -/
def xs (c : Dev nD) (t : Fin cfg0.N) : Vec F S16384x128 .f32 := iblk m c 0 t

/-- The whole pooled array. -/
def pooledM (c : Dev nD) : Vec F S512x64 .f32 := pooledAll (wA m c) (wB m c) (xs m c)

/-- What the last point stores in the result: the epilogue of the whole pooled array and the weights held. -/
def outM (c : Dev nD) : Vec F S512x1 .f32 :=
  epilogue (pooledM m c) (k0_pay8 (iblk m c 5 t0)) (k0_pay9 (iblk m c 7 t0)) (k0_pay10 (iblk m c 9 t0)) (k0_pay11 (iblk m c 6 t0))
    (k0_pay12 (iblk m c 8 t0)) (k0_pay13 (iblk m c 10 t0)) (k0_pay14 (iblk m c 11 t0)) (k0_pay18 (iblk m c 12 t0)) (k0_pay19 (iblk m c 13 t0))

/-- The launch's invariant with the scratch buffers as memrefs owned at some contents. -/
theorem PhiA0_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ (∃ d, owns (c : Thread nD τ) sc7 fullShare d) ∗ (∃ d, owns (c : Thread nD τ) sc8 fullShare d) ∗ (∃ d, owns (c : Thread nD τ) sc9 fullShare d) ∗ (∃ d, owns (c : Thread nD τ) sc10 fullShare d) ∗ (∃ d, owns (c : Thread nD τ) sc11 fullShare d)) ∗ (∃ r, prngReg c r)) := by
  unfold Pipeline.ΦA; rw [scopedRest0_eq]; simp only [sc0, sc1, sc2, sc3, sc4, sc5, sc6, sc7, sc8, sc9, sc10, sc11, owns_whole]; try rfl

/-- The scratch buffers after `n` points: the pooled array filled so far, the weights as the first point left them. -/
def Later (c : Dev nD) (n : ℕ) : sProp 𝕄 :=
  iprop(iprop((∃ p, ⌜Filled (wA m c) (wB m c) (xs m c) n p⌝ ∗ owns (c : Thread nD τ) sc0 fullShare p)
    ∗ owns (c : Thread nD τ) sc1 fullShare (wA m c)
    ∗ owns (c : Thread nD τ) sc2 fullShare (wB m c)
    ∗ owns (c : Thread nD τ) sc3 fullShare (k0_pay8 (iblk m c 5 t0))
    ∗ owns (c : Thread nD τ) sc4 fullShare (k0_pay9 (iblk m c 7 t0))
    ∗ owns (c : Thread nD τ) sc5 fullShare (k0_pay10 (iblk m c 9 t0))
    ∗ owns (c : Thread nD τ) sc6 fullShare (k0_pay11 (iblk m c 6 t0))
    ∗ owns (c : Thread nD τ) sc7 fullShare (k0_pay12 (iblk m c 8 t0))
    ∗ owns (c : Thread nD τ) sc8 fullShare (k0_pay13 (iblk m c 10 t0))
    ∗ owns (c : Thread nD τ) sc9 fullShare (k0_pay14 (iblk m c 11 t0))
    ∗ owns (c : Thread nD τ) sc10 fullShare (k0_pay18 (iblk m c 12 t0))
    ∗ owns (c : Thread nD τ) sc11 fullShare (k0_pay19 (iblk m c 13 t0))) ∗ (∃ r, prngReg c r))

/-- The invariant before point `n`: the launch's before the first, `Later` after. -/
def PhiS (c : Dev nD) : ℕ → sProp 𝕄
  | 0 => Pipeline.ΦA spec0 c
  | n + 1 => Later m c (n + 1)

theorem PhiS_zero (c : Dev nD) (n : ℕ) (hz : n = 0) : PhiS m c n = Pipeline.ΦA spec0 c := by
  subst hz; rfl

theorem PhiS_pos (c : Dev nD) (n : ℕ) (hz : n ≠ 0) : PhiS m c n = Later m c n := by
  cases n with
  | zero => exact absurd rfl hz
  | succ n => rfl

/-- The proof data: each input's buffer keeps its block, the result's holds `outM` where the body stores it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => outM m c
  Φ t := PhiS m c t.val
  q _ := fullShare
  owed _ := 0

theorem A_eq (c : Dev nD) (w : Fin cfg0.W) : (dats m 0 c).A w = V m c (Pipeline.arrRef spec0 w) := by
  dsimp only [dats]

/-- What the body leaves in each window. -/
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = outM m c := by dsimp only [dats]

/-- Each input's buffer holds its block before the body. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d

/-- Each input's buffer holds its block after the body. -/
theorem leaves0 (c : Dev nD) (t : Fin cfg0.N) :
    (dats m 0 c).leavesExact 0 t = owns (c : Thread nD τ) (ms0 t) fullShare (iblk m c 0 t) := by
  rw [← after0 m c t]
theorem leaves1 (c : Dev nD) (t : Fin cfg0.N) :
    (dats m 0 c).leavesExact 1 t = owns (c : Thread nD τ) (ms1 t) fullShare (iblk m c 1 t) := by
  rw [← after1 m c t]
theorem leaves2 (c : Dev nD) (t : Fin cfg0.N) :
    (dats m 0 c).leavesExact 2 t = owns (c : Thread nD τ) (ms2 t) fullShare (iblk m c 2 t) := by
  rw [← after2 m c t]
theorem leaves3 (c : Dev nD) (t : Fin cfg0.N) :
    (dats m 0 c).leavesExact 3 t = owns (c : Thread nD τ) (ms3 t) fullShare (iblk m c 3 t) := by
  rw [← after3 m c t]
theorem leaves4 (c : Dev nD) (t : Fin cfg0.N) :
    (dats m 0 c).leavesExact 4 t = owns (c : Thread nD τ) (ms4 t) fullShare (iblk m c 4 t) := by
  rw [← after4 m c t]
theorem leaves5 (c : Dev nD) (t : Fin cfg0.N) :
    (dats m 0 c).leavesExact 5 t = owns (c : Thread nD τ) (ms5 t) fullShare (iblk m c 5 t) := by
  rw [← after5 m c t]
theorem leaves6 (c : Dev nD) (t : Fin cfg0.N) :
    (dats m 0 c).leavesExact 6 t = owns (c : Thread nD τ) (ms6 t) fullShare (iblk m c 6 t) := by
  rw [← after6 m c t]
theorem leaves7 (c : Dev nD) (t : Fin cfg0.N) :
    (dats m 0 c).leavesExact 7 t = owns (c : Thread nD τ) (ms7 t) fullShare (iblk m c 7 t) := by
  rw [← after7 m c t]
theorem leaves8 (c : Dev nD) (t : Fin cfg0.N) :
    (dats m 0 c).leavesExact 8 t = owns (c : Thread nD τ) (ms8 t) fullShare (iblk m c 8 t) := by
  rw [← after8 m c t]
theorem leaves9 (c : Dev nD) (t : Fin cfg0.N) :
    (dats m 0 c).leavesExact 9 t = owns (c : Thread nD τ) (ms9 t) fullShare (iblk m c 9 t) := by
  rw [← after9 m c t]
theorem leaves10 (c : Dev nD) (t : Fin cfg0.N) :
    (dats m 0 c).leavesExact 10 t = owns (c : Thread nD τ) (ms10 t) fullShare (iblk m c 10 t) := by
  rw [← after10 m c t]
theorem leaves11 (c : Dev nD) (t : Fin cfg0.N) :
    (dats m 0 c).leavesExact 11 t = owns (c : Thread nD τ) (ms11 t) fullShare (iblk m c 11 t) := by
  rw [← after11 m c t]
theorem leaves12 (c : Dev nD) (t : Fin cfg0.N) :
    (dats m 0 c).leavesExact 12 t = owns (c : Thread nD τ) (ms12 t) fullShare (iblk m c 12 t) := by
  rw [← after12 m c t]
theorem leaves13 (c : Dev nD) (t : Fin cfg0.N) :
    (dats m 0 c).leavesExact 13 t = owns (c : Thread nD τ) (ms13 t) fullShare (iblk m c 13 t) := by
  rw [← after13 m c t]

/-- Before the last point the result's buffer is left as found, -/
theorem leaves14_idle (c : Dev nD) (t : Fin cfg0.N) (h : t.val ≠ 7) :
    (dats m 0 c).leavesExact 14 t = iprop(∃ d, owns (c : Thread nD τ) (ms14 t) fullShare ((dats m 0 c).before 14 t d)) := by
  have hN : t.val < 8 := lt_of_lt_of_eq t.isLt (show cfg0.N = 8 from N_0)
  refine (dats m 0 c).leavesExact_idle 14 t ?_ ?_
  · show (!(k0_cond2 (grid0.coords t) == 1#1)) = true
    have := (isLast_iff t).not.mpr h
    simpa using this
  · rw [Bool.eq_false_iff]
    intro hf
    have := (flush0_14 t).mp hf
    omega

/-- and at the last it holds the epilogue. -/
theorem leaves14_last (c : Dev nD) (t : Fin cfg0.N) (h : t.val = 7) :
    (dats m 0 c).leavesExact 14 t = owns (c : Thread nD τ) (ms14 t) fullShare (outM m c) := by
  have hl : cfg0.idle 14 (grid0.coords t) = false := by
    show (!(k0_cond2 (grid0.coords t) == 1#1)) = false
    have := (isLast_iff t).mpr h
    simpa using this
  unfold Dat.leavesExact
  rw [hl, after14]

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t)

set_option maxHeartbeats 4000000 in
/-- The body at any point: by cases, the first, one between, the last. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10, before11, before12, before13]
  rw [show (dats m 0 c).owesAt () t.succ = (dats m 0 c).owesAt () t.castSucc from rfl]
  rw [show (dats m 0 c).Φ t.succ = PhiS m c (t.val + 1) from rfl, PhiS_pos m c _ (Nat.succ_ne_zero _)]
  rw [show (dats m 0 c).Φ t.castSucc = PhiS m c t.val from rfl]
  rw [leaves0, leaves1, leaves2, leaves3, leaves4, leaves5, leaves6, leaves7, leaves8, leaves9, leaves10, leaves11, leaves12, leaves13]
  have hN : t.val < 8 := lt_of_lt_of_eq t.isLt (show cfg0.N = 8 from N_0)
  by_cases hz : t.val = 0
  · obtain rfl : t = t0 := Fin.ext hz
    rw [PhiS_zero m c _ hz, PhiA0_eq, leaves14_idle m c t0 (by omega)]
    iintro ⟨⟨⟨⟨%p, S0⟩, S1, S2, S3, S4, S5, S6, S7, S8, S9, S10, S11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply (run_first c (grid0.coords t0) _ _ _ _ _ _ _ _ _ _ _ _ _ _ _ _ _ _ _ _ _ _ _ _ _ _ _ _ _ _ _ _ _ _ _ _ _ _ _ _ _ _ _ _ _ _ _ _ _ _ _ _ _ _ ((isFirst_iff t0).mpr hz) ((isLast_iff t0).not.mpr (by omega))
      (iblk m c 0 t0) (iblk m c 1 t0) (iblk m c 2 t0) (iblk m c 3 t0) (iblk m c 4 t0) (iblk m c 5 t0) (iblk m c 6 t0) (iblk m c 7 t0) (iblk m c 8 t0) (iblk m c 9 t0) (iblk m c 10 t0) (iblk m c 11 t0) (iblk m c 12 t0) (iblk m c 13 t0) p Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    iintro ⟨H0, H1, H2, H3, H4, H5, H6, H7, H8, H9, H10, H11, H12, H13, S0, S1, S2, S3, S4, S5, S6, S7, S8, S9, S10, S11⟩
    isplitl [S0 S1 S2 S3 S4 S5 S6 S7 S8 S9 S10 S11 Hg]
    · unfold Later
      isplitl [S0 S1 S2 S3 S4 S5 S6 S7 S8 S9 S10 S11]
      · isplitl [S0]
        · iexists _; isplitr
          · ipureintro; exact filled_step _ _ _ t0 p (filled_zero _ _ _ p)
          iexact S0
        isplitl [S1]; · iexact S1
        isplitl [S2]; · iexact S2
        isplitl [S3]; · iexact S3
        isplitl [S4]; · iexact S4
        isplitl [S5]; · iexact S5
        isplitl [S6]; · iexact S6
        isplitl [S7]; · iexact S7
        isplitl [S8]; · iexact S8
        isplitl [S9]; · iexact S9
        isplitl [S10]; · iexact S10
        iexact S11
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexists _; iexact H14
  · rw [PhiS_pos m c _ hz]
    by_cases hl : t.val = 7
    rotate_left
    · rw [leaves14_idle m c t hl]
      unfold Later
      iintro ⟨⟨⟨⟨%p, %hp, S0⟩, S1, S2, S3, S4, S5, S6, S7, S8, S9, S10, S11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (run_middle c (grid0.coords t) _ _ _ _ _ _ _ _ _ _ _ _ _ _ _ _ _ _ _ _ _ _ _ _ _ _ _ _ _ _ _ _ _ _ _ _ _ _ _ _ _ _ _ _ _ _ _ _ _ _ _ _ _ _ ((isFirst_iff t).not.mpr hz) ((isLast_iff t).not.mpr hl)
        (iblk m c 0 t) p (wA m c) (wB m c) Set.univ _)
      isplitl [H0]; · iexact H0
      isplitl [S0]; · iexact S0
      isplitl [S1]; · iexact S1
      isplitl [S2]; · iexact S2
      iintro ⟨H0, S0, S1, S2⟩
      isplitl [S0 S1 S2 S3 S4 S5 S6 S7 S8 S9 S10 S11 Hg]
      · skip
        isplitl [S0 S1 S2 S3 S4 S5 S6 S7 S8 S9 S10 S11]
        · isplitl [S0]
          · iexists _; isplitr
            · ipureintro; exact filled_step _ _ _ t p hp
            iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [S10]; · iexact S10
          iexact S11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexists _; iexact H14
    · rw [leaves14_last m c t hl]
      unfold Later
      iintro ⟨⟨⟨⟨%p, %hp, S0⟩, S1, S2, S3, S4, S5, S6, S7, S8, S9, S10, S11⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
      iapply (run_last c (grid0.coords t) _ _ _ _ _ _ _ _ _ _ _ _ _ _ _ _ _ _ _ _ _ _ _ _ _ _ _ _ _ _ _ _ _ _ _ _ _ _ _ _ _ _ _ _ _ _ _ _ _ _ _ _ _ _ ((isFirst_iff t).not.mpr hz) ((isLast_iff t).mpr hl)
        (iblk m c 0 t) p (wA m c) (wB m c) (k0_pay8 (iblk m c 5 t0)) (k0_pay9 (iblk m c 7 t0)) (k0_pay10 (iblk m c 9 t0)) (k0_pay11 (iblk m c 6 t0))
        (k0_pay12 (iblk m c 8 t0)) (k0_pay13 (iblk m c 10 t0)) (k0_pay14 (iblk m c 11 t0)) (k0_pay18 (iblk m c 12 t0)) (k0_pay19 (iblk m c 13 t0)) Set.univ _)
      isplitl [H0]; · iexact H0
      isplitl [H14]; · iexists _; iexact H14
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      iintro ⟨H0, H14, S0, S1, S2, S3, S4, S5, S6, S7, S8, S9, S10, S11⟩
      have hpool : pooledM m c = pooledStep (grid0.coords t) p (wA m c) (wB m c) (iblk m c 0 t) :=
        (filled_all _ _ _ (t.val + 1) (by omega) _ (filled_step _ _ _ t p hp)).symm
      rw [show outM m c = epilogue (pooledStep (grid0.coords t) p (wA m c) (wB m c) (iblk m c 0 t)) (k0_pay8 (iblk m c 5 t0)) (k0_pay9 (iblk m c 7 t0)) (k0_pay10 (iblk m c 9 t0)) (k0_pay11 (iblk m c 6 t0))
        (k0_pay12 (iblk m c 8 t0)) (k0_pay13 (iblk m c 10 t0)) (k0_pay14 (iblk m c 11 t0)) (k0_pay18 (iblk m c 12 t0)) (k0_pay19 (iblk m c 13 t0)) from by
          unfold outM; rw [hpool]]
      isplitl [S0 S1 S2 S3 S4 S5 S6 S7 S8 S9 S10 S11 Hg]
      · skip
        isplitl [S0 S1 S2 S3 S4 S5 S6 S7 S8 S9 S10 S11]
        · isplitl [S0]
          · iexists _; isplitr
            · ipureintro; exact filled_step _ _ _ t p hp
            iexact S0
          isplitl [S1]; · iexact S1
          isplitl [S2]; · iexact S2
          isplitl [S3]; · iexact S3
          isplitl [S4]; · iexact S4
          isplitl [S5]; · iexact S5
          isplitl [S6]; · iexact S6
          isplitl [S7]; · iexact S7
          isplitl [S8]; · iexact S8
          isplitl [S9]; · iexact S9
          isplitl [S10]; · iexact S10
          iexact S11
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14

/-- The body table's row at a point's slots is the body there. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 from rfl, PhiS_zero m c 0 rfl]

/-- After the last point the invariant gives the scratch buffers back at some contents. -/
theorem hout (c : Dev nD) : (dats m 0 c).Φ (Fin.last cfg0.N) ⊢ Pipeline.ΦA spec0 c := by
  have h8 : (Fin.last cfg0.N).val ≠ 0 := by rw [Fin.val_last]; have : cfg0.N = 8 := N_0; omega
  rw [show (dats m 0 c).Φ (Fin.last cfg0.N) = PhiS m c (Fin.last cfg0.N).val from rfl, PhiS_pos m c _ h8, PhiA0_eq]
  unfold Later
  iintro ⟨⟨⟨%p, %hp, S0⟩, S1, S2, S3, S4, S5, S6, S7, S8, S9, S10, S11⟩, Hg⟩
  isplitl [S0 S1 S2 S3 S4 S5 S6 S7 S8 S9 S10 S11]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    isplitl [S9]; · iexists _; iexact S9
    isplitl [S10]; · iexists _; iexact S10
    iexists _; iexact S11
  iexact Hg

set_option backward.isDefEq.respectTransparency.types false in
set_option maxHeartbeats 800000 in
/-- The launch: every array of the pipeline ends at what the proof data says, every other buffer at what the host
    operations leave, and every counter at zero. -/
theorem run_full : θ_run defs (onTc (τ := τ) (main (F := F))) (s₀ m ρ)
    (fun r => Pipeline.FramePost cfgs (dats m) (0 : Fin 1) (Pipeline.afterTail₀ cfgs (dats m) (0 : Fin 1) (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Own

end
-- ==== Proof.Value.lean ====
/- What the run leaves: the arguments as launched, and the returned buffer at the reshape of the epilogue's value. -/
module

public import proofs.«01_k».proof.Proof.Run
public import Idealize.ShloMosaic.Lib.Pipeline.ValueKit

@[expose] public section

set_option maxRecDepth 16384

noncomputable section

namespace Cert.KernelIdeal.Own

open Idealize.ShloMosaic Idealize.ShloMosaic.TcCoe Idealize.ShloMosaic.Tactic
open Idealize.SL Idealize.SL.Sem
open Idealize.ShloMosaic.Pipeline (Dat Cfg Window)
open Cert.KernelIdeal.Gen

variable {F : FTy → Type} [FloatOps F]

variable (m : (ℓ : Loc nD τ sig) → Buf (Elt F) ℓ) (ρ : Dev nD → PrngReg)

/-- The output's array after the grid is what the last point computed. -/
theorem out_array (c : Dev nD) : (dats m 0 c).arrAt 14 cfg0.N = outM m c := by
  refine (dats m 0 c).arrAt_eq_of_after_last 14 t7 (by decide +kernel) _ fun j => ?_
  blk_simp
  rw [after14]

/-- The program's result holds the epilogue's value, reshaped to [16, 32]. -/
theorem result (c : Dev nD) :
    Pipeline.afterTail₀ cfgs (dats m) (0 : Fin 1) (V0 m) [hostOps1] c main_v2
      = (shapeCast S16x32 (outM m c) shapeCasts_S512x1_S16x32 : Vec F S16x32 .f32) := by
  have h : Pipeline.withArrays spec0 c (V0 m c) (fun w => (dats m 0 c).arrAt w cfg0.N) (Proc.devRef .tc main_v1)
      = (dats m 0 c).arrAt 14 cfg0.N := Pipeline.withArrays_arr spec0 (by decide) c (V0 m c) _ 14
  show StableHlo.after hostOps1 (Pipeline.withArrays spec0 c (V0 m c) fun w => (dats m 0 c).arrAt w cfg0.N) (Proc.devRef .tc main_v2) = _
  revert h
  rw [out_array]
  generalize Pipeline.withArrays spec0 c (V0 m c) (fun w => (dats m 0 c).arrAt w cfg0.N) = W
  intro h
  after_results
  rw [h]
  rfl

end Cert.KernelIdeal.Own
-- ==== Proof.Frames.lean ====
/- The kernel's runs leave its arguments as launched and every counter at zero. -/
module

public import proofs.«01_k».proof.Defs
public import proofs.«01_k».proof.Proof.Value
public import proofs.«01_k».proof.Proof.Gen.Kernel

@[expose] public section

set_option maxRecDepth 16384

noncomputable section

namespace Cert.Proof

open Idealize.ShloMosaic Idealize.SL.Sem

/-- The idealized kernel: its arguments end as launched and every counter at zero. -/
theorem kernelIdeal_frame : Cert.quiescent_KernelIdeal := fun m g _ =>
  θ_run_and (Cert.KernelIdeal.Gen.frame_of m g (Cert.KernelIdeal.Own.dats m) (Cert.KernelIdeal.Own.A_eq m)
    ((θ_run _ _ _).mono (fun _ h => h.1) (Cert.KernelIdeal.Own.run_full m g)))
    ((θ_run _ _ _).mono (fun _ h => h.2) (Cert.KernelIdeal.Own.run_full m g))

variable (F : FTy → Type) [FloatOps F]

/-- The two modules print one kernel function. -/
theorem kernel_eq : (fun i => Cert.Kernel.cc0__fused (F := F) i) = (fun i => Cert.KernelIdeal.cc0__fused (F := F) i) := rfl

/-- The two modules' body tables are one. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

/-- The tables with the pipeline's own labels are one. -/
theorem defs_eq : Cert.Kernel.defs (F := F) = Cert.KernelIdeal.defs (F := F) :=
  congrArg (Pipeline.defs Cert.KernelIdeal.pcfgs) (defs₀_eq F)

set_option maxHeartbeats 8000000 in
/-- The kernel as printed for the chip: its arguments end as launched and every counter at zero. -/
theorem kernel_frame : Cert.quiescent_Kernel := fun m g _ => by
  rw [show Cert.Kernel.defs (F := Bits) = Cert.KernelIdeal.defs (F := Bits) from defs_eq Bits]
  have h := θ_run_and (Cert.KernelIdeal.Gen.frame_of m g (Cert.KernelIdeal.Own.dats m) (Cert.KernelIdeal.Own.A_eq m)
    ((θ_run _ _ _).mono (fun _ h => h.1) (Cert.KernelIdeal.Own.run_full m g)))
    ((θ_run _ _ _).mono (fun _ h => h.2) (Cert.KernelIdeal.Own.run_full m g))
  exact h

end Cert.Proof
-- ==== Proof.Weights.lean ====
/- The two weight arrays that the first grid point assembles, entry by entry. -/
module

public import proofs.«01_k».proof.Proof.Memory
public import Idealize.ShloMosaic.Lib.Pointwise

@[expose] public section

set_option maxRecDepth 16384

noncomputable section

namespace Cert.KernelIdeal.Own

open Idealize.ShloMosaic Cert.KernelIdeal.Gen VecWindow

/-- A block put at row `o` and column `q` of a matrix: inside it the block's entry, outside what was there. -/
theorem put_at {α : Type} {R C r s : ℕ} (p : (⟨2, ![R, C]⟩ : Shape).Idx → α) (o q : ℕ) (w : (⟨2, ![r, s]⟩ : Shape).Idx → α)
    (a : Fin R) (b : Fin C) :
    put p ![o, q] (⟨2, ![r, s]⟩ : Shape).size w (ix2 a b)
      = if h : (o ≤ a.val ∧ a.val < o + r) ∧ (q ≤ b.val ∧ b.val < q + s) then
          w (ix2 ⟨a.val - o, by omega⟩ ⟨b.val - q, by omega⟩) else p (ix2 a b) := by
  unfold put
  by_cases h : (o ≤ a.val ∧ a.val < o + r) ∧ (q ≤ b.val ∧ b.val < q + s)
  · rw [dif_pos h, dif_pos (Fin.forall_fin_two.mpr h)]
    congr 1
    funext i
    fin_cases i <;> rfl
  · rw [dif_neg h, dif_neg fun hh => h ⟨hh 0, hh 1⟩]

/-- The first layer's weights: the tower's in columns 0 to 127, the return's in columns 128 to 255. -/
theorem firstW_left (a b : Vec Ideal S128x128 .f32) (f k : Fin 128) :
    firstW a b (ix2 f (⟨k.val, by omega⟩ : Fin 256)) = a (ix2 k f) := by
  unfold firstW
  rw [put_at, dif_neg (by simp), put_at, dif_pos (by simp)]
  pointwise [k0_pay3]

theorem firstW_right (a b : Vec Ideal S128x128 .f32) (f k : Fin 128) :
    firstW a b (ix2 f (⟨128 + k.val, by omega⟩ : Fin 256)) = b (ix2 k f) := by
  unfold firstW
  rw [put_at, dif_pos (by simp; omega)]
  pointwise [k0_pay4]

/-- The second layer's weights: the tower's in the upper left block. -/
theorem secondW_left (a b : Vec Ideal S32x128 .f32) (k : Fin 128) (l : Fin 32) :
    secondW a b (ix2 (⟨k.val, by omega⟩ : Fin 256) (⟨l.val, by omega⟩ : Fin 128)) = a (ix2 l k) := by
  unfold secondW
  rw [put_at, dif_neg (by simp), put_at, dif_pos (by simp)]
  pointwise [k0_pay6]

/-- The return's in the block below and to its right. -/
theorem secondW_right (a b : Vec Ideal S32x128 .f32) (k : Fin 128) (l : Fin 32) :
    secondW a b (ix2 (⟨128 + k.val, by omega⟩ : Fin 256) (⟨32 + l.val, by omega⟩ : Fin 128)) = b (ix2 l k) := by
  unfold secondW
  rw [put_at, dif_pos (by simp; omega)]
  pointwise [k0_pay7]

/-- Zero below the tower's block. -/
theorem secondW_zero_left (a b : Vec Ideal S32x128 .f32) (k : Fin 128) (l : Fin 32) :
    secondW a b (ix2 (⟨128 + k.val, by omega⟩ : Fin 256) (⟨l.val, by omega⟩ : Fin 128)) = (0 : EReal) := by
  unfold secondW
  rw [put_at, dif_neg (by simp), put_at, dif_neg (by simp)]
  pointwise [k0_pay5]

/-- Zero above the return's block. -/
theorem secondW_zero_right (a b : Vec Ideal S32x128 .f32) (k : Fin 128) (l : Fin 32) :
    secondW a b (ix2 (⟨k.val, by omega⟩ : Fin 256) (⟨32 + l.val, by omega⟩ : Fin 128)) = (0 : EReal) := by
  unfold secondW
  rw [put_at, dif_neg (by simp), put_at, dif_neg (by simp)]
  pointwise [k0_pay5]

end Cert.KernelIdeal.Own
-- ==== Proof.Model.lean ====
/- The mathematics of the network in sums and maxima over the extended reals. -/
module

public import Mathlib.Data.EReal.Operations
public import Mathlib.Algebra.BigOperators.Fin

@[expose] public section

noncomputable section

namespace Cert.Model

/-- One column of the two-layer tower at one row of observations. -/
def tower (A : Fin 128 → Fin 128 → EReal) (B : Fin 32 → Fin 128 → EReal) (x : Fin 128 → EReal) (c : Fin 32) : EReal :=
  max (∑ k : Fin 128, max (∑ f : Fin 128, x f * A k f) 0 * B c k) 0

/-- A column of the tower summed over the 256 rows of one segment. -/
def pooled (A : Fin 128 → Fin 128 → EReal) (B : Fin 32 → Fin 128 → EReal) (x : Fin 256 → Fin 128 → EReal) (c : Fin 32) : EReal :=
  ∑ n : Fin 256, tower A B (x n) c

/-- A two-layer head with one output on the pooled row of a segment. -/
def head (A : Fin 64 → Fin 32 → EReal) (B : Fin 64 → EReal) (p : Fin 32 → EReal) : EReal :=
  ∑ j : Fin 64, max (∑ k : Fin 32, p k * A j k) 0 * B j

/-- One column of the cost tower, from the three heads. -/
def cost (A : Fin 64 → Fin 3 → EReal) (B : Fin 32 → Fin 64 → EReal) (h : Fin 3 → EReal) (c : Fin 32) : EReal :=
  max (∑ j : Fin 64, max (∑ i : Fin 3, h i * A j i) 0 * B c j) 0

/-- The policy's logit: the pooled row against the first 32 weights, the cost row against the last 32. -/
def logit (W : Fin 64 → EReal) (u v : Fin 32 → EReal) : EReal :=
  ∑ k : Fin 32, u k * W ⟨k.val, by omega⟩ + ∑ k : Fin 32, v k * W ⟨32 + k.val, by omega⟩

/-- The network's output for one segment, from the segment's 256 rows and the thirteen weight matrices. -/
def policy (At : Fin 128 → Fin 128 → EReal) (Bt : Fin 32 → Fin 128 → EReal) (Ar : Fin 128 → Fin 128 → EReal) (Br : Fin 32 → Fin 128 → EReal)
    (Af : Fin 64 → Fin 32 → EReal) (Bf : Fin 64 → EReal) (Ac : Fin 64 → Fin 32 → EReal) (Bc : Fin 64 → EReal)
    (Ab : Fin 64 → Fin 32 → EReal) (Bb : Fin 64 → EReal) (Aq : Fin 64 → Fin 3 → EReal) (Bq : Fin 32 → Fin 64 → EReal)
    (W : Fin 64 → EReal) (x : Fin 256 → Fin 128 → EReal) : EReal :=
  logit W (pooled Ar Br x)
    (cost Aq Bq ![head Af Bf (pooled At Bt x), head Ac Bc (pooled At Bt x), head Ab Bb (pooled At Bt x)])

/-- The rows of a segment in the flat array of rows. -/
def rows (X : Fin 131072 → Fin 128 → EReal) (b : Fin 512) (n : Fin 256) (f : Fin 128) : EReal :=
  X ⟨256 * b.val + n.val, by omega⟩ f

end Cert.Model
-- ==== Proof.Net.lean ====
/- The network's output for a segment as a function of the flat array of observations and the weight arrays. -/
module

public import proofs.«01_k».proof.Proof.Model
public import Idealize.ShloMosaic.Lib.Pointwise

@[expose] public section

noncomputable section

namespace Cert.Model

open Idealize.ShloMosaic

/-- An extended real array of two axes. -/
abbrev Arr (r c : ℕ) : Type := FVec Ideal (⟨2, ![r, c]⟩ : Shape) .f32

/-- The network's output for segment `b`. -/
def net (x : Arr 131072 128) (t0 : Arr 128 128) (t1 : Arr 32 128) (r0 : Arr 128 128) (r1 : Arr 32 128) (f0 : Arr 64 32) (f1 : Arr 1 64)
    (c0 : Arr 64 32) (c1 : Arr 1 64) (b0 : Arr 64 32) (b1 : Arr 1 64) (q0 : Arr 64 3) (q1 : Arr 32 64) (w : Arr 1 64) (b : Fin 512) : EReal :=
  policy (fun k f => t0 (ix2 k f)) (fun j k => t1 (ix2 j k)) (fun k f => r0 (ix2 k f)) (fun j k => r1 (ix2 j k))
    (fun j k => f0 (ix2 j k)) (fun j => f1 (ix2 0 j)) (fun j k => c0 (ix2 j k)) (fun j => c1 (ix2 0 j))
    (fun j k => b0 (ix2 j k)) (fun j => b1 (ix2 0 j)) (fun j i => q0 (ix2 j i)) (fun l j => q1 (ix2 l j)) (fun k => w (ix2 0 k))
    (rows (fun r f => x (ix2 r f)) b)

/-- Equal arrays give equal outputs. -/
theorem net_congr {x x' : Arr 131072 128} {t0 t0' : Arr 128 128} {t1 t1' : Arr 32 128} {r0 r0' : Arr 128 128} {r1 r1' : Arr 32 128}
    {f0 f0' : Arr 64 32} {f1 f1' : Arr 1 64} {c0 c0' : Arr 64 32} {c1 c1' : Arr 1 64} {b0 b0' : Arr 64 32} {b1 b1' : Arr 1 64}
    {q0 q0' : Arr 64 3} {q1 q1' : Arr 32 64} {w w' : Arr 1 64} (hx : x = x') (ht0 : t0 = t0') (ht1 : t1 = t1') (hr0 : r0 = r0')
    (hr1 : r1 = r1') (hf0 : f0 = f0') (hf1 : f1 = f1') (hc0 : c0 = c0') (hc1 : c1 = c1') (hb0 : b0 = b0') (hb1 : b1 = b1')
    (hq0 : q0 = q0') (hq1 : q1 = q1') (hw : w = w') (b : Fin 512) :
    net x t0 t1 r0 r1 f0 f1 c0 c1 b0 b1 q0 q1 w b = net x' t0' t1' r0' r1' f0' f1' c0' c1' b0' b1' q0' q1' w' b := by
  rw [hx, ht0, ht1, hr0, hr1, hf0, hf1, hc0, hc1, hb0, hb1, hq0, hq1, hw]

end Cert.Model
-- ==== Proof.Block.lean ====
/- What one half block's payload computes: two layers, then the sum over the 256 rows of a segment. -/
module

public import proofs.«01_k».proof.Proof.Weights
public import proofs.«01_k».proof.Proof.Net

@[expose] public section

set_option maxRecDepth 16384

noncomputable section

namespace Cert.KernelIdeal.Own

open Idealize.ShloMosaic Cert.KernelIdeal.Gen Cert.Model

/-- Two layers at 256 rows of a half block from row `256 i`, summed, over any two weight arrays. -/
def half (w1 : Vec Ideal S128x256 .f32) (w2 : Vec Ideal S256x128 .f32) (x : Vec Ideal S8192x128 .f32) (i : Fin 32) (l : Fin 128) : EReal :=
  ∑ n : Fin 256, max (∑ k : Fin 256, max (∑ f : Fin 128, x (ix2 (⟨i.val * 256 + n.val, by omega⟩ : Fin 8192) f) * w1 (ix2 f k)) 0
    * w2 (ix2 k l)) 0

/-- The upper half's payload at a segment and a column. -/
theorem pay20_apply (w1 : Vec Ideal S128x256 .f32) (w2 : Vec Ideal S256x128 .f32) (x : Vec Ideal S8192x128 .f32) (i : Fin 32) (l : Fin 64) :
    k0_pay20 w1 w2 x (ix2 i l) = half w1 w2 x i ⟨l.val, by omega⟩ := by
  pointwise [k0_pay20, half]

/-- The lower half's payload at a segment and a column. -/
theorem pay21_apply (w1 : Vec Ideal S128x256 .f32) (w2 : Vec Ideal S256x128 .f32) (x : Vec Ideal S8192x128 .f32) (i : Fin 32) (l : Fin 64) :
    k0_pay1 (k0_pay21 w1 w2 x) (ix2 i l) = half w1 w2 x i ⟨l.val, by omega⟩ := by
  pointwise [k0_pay1, k0_pay21, half]

/-- The two layers at the rows of one segment, summed, over any two weight arrays. -/
def segment (w1 : Vec Ideal S128x256 .f32) (w2 : Vec Ideal S256x128 .f32) (x : Fin 256 → Fin 128 → EReal) (l : Fin 128) : EReal :=
  ∑ n : Fin 256, max (∑ k : Fin 256, max (∑ f : Fin 128, x n f * w1 (ix2 f k)) 0 * w2 (ix2 k l)) 0

/-- A half block's value is its rows' segment. -/
theorem half_eq (w1 : Vec Ideal S128x256 .f32) (w2 : Vec Ideal S256x128 .f32) (y : Vec Ideal S8192x128 .f32) (i : Fin 32) (l : Fin 128)
    (x : Fin 256 → Fin 128 → EReal) (h : ∀ n f, y (ix2 (⟨i.val * 256 + n.val, by omega⟩ : Fin 8192) f) = x n f) :
    half w1 w2 y i l = segment w1 w2 x l := by
  unfold half segment
  simp only [h]

/-- On the assembled weights the first 32 columns are the first tower's. -/
theorem segment_left (a b : Vec Ideal S128x128 .f32) (c d : Vec Ideal S32x128 .f32) (x : Fin 256 → Fin 128 → EReal) (l : Fin 32) :
    segment (firstW a b) (secondW c d) x ⟨l.val, by omega⟩
      = pooled (fun k f => a (ix2 k f)) (fun j k => c (ix2 j k)) x l := by
  unfold segment pooled tower
  refine Finset.sum_congr rfl fun n _ => ?_
  rw [Fin.sum_univ_two_halves 128 128 rfl]
  simp only [secondW_left, secondW_zero_left, firstW_left, mul_zero, Finset.sum_const_zero, add_zero]

/-- The next 32 columns are the second tower's. -/
theorem segment_right (a b : Vec Ideal S128x128 .f32) (c d : Vec Ideal S32x128 .f32) (x : Fin 256 → Fin 128 → EReal) (l : Fin 32) :
    segment (firstW a b) (secondW c d) x ⟨32 + l.val, by omega⟩
      = pooled (fun k f => b (ix2 k f)) (fun j k => d (ix2 j k)) x l := by
  unfold segment pooled tower
  refine Finset.sum_congr rfl fun n _ => ?_
  rw [Fin.sum_univ_two_halves 128 128 rfl]
  simp only [secondW_right, secondW_zero_right, firstW_right, mul_zero, Finset.sum_const_zero, zero_add]

end Cert.KernelIdeal.Own
-- ==== Proof.Epilogue.lean ====
/- What the last grid point computes from the pooled array: the heads, the cost tower and the logit of every segment. -/
module

public import proofs.«01_k».proof.Proof.Block

@[expose] public section

set_option maxRecDepth 16384

noncomputable section

namespace Cert.KernelIdeal.Own

open Idealize.ShloMosaic Cert.KernelIdeal.Gen Cert.Model

/-- One head's two products at a segment. -/
def headAt (p : Vec Ideal S512x64 .f32) (A : Vec Ideal S64x32 .f32) (B : Vec Ideal S1x64 .f32) (b : Fin 512) : EReal :=
  head (fun j k => A (ix2 j k)) (fun j => B (ix2 0 j)) fun k => p (ix2 b (⟨k.val, by omega⟩ : Fin 64))

/-- The cost tower's last product at a segment and a column, before its rectification. -/
theorem pay16_apply (p : Vec Ideal S512x64 .f32) (f0 c0 b0 : Vec Ideal S64x32 .f32) (f1 c1 b1 : Vec Ideal S1x64 .f32)
    (q0 : Vec Ideal S64x3 .f32) (q1 : Vec Ideal S32x64 .f32) (b : Fin 512) (l : Fin 32) :
    k0_pay16 p (k0_pay8 f0) (k0_pay9 c0) (k0_pay10 b0) (k0_pay11 f1) (k0_pay12 c1) (k0_pay13 b1) (k0_pay14 q0) (k0_pay18 q1) (ix2 b l)
      = ∑ j : Fin 64, max (∑ i : Fin 3, (![headAt p f0 f1 b, headAt p c0 c1 b, headAt p b0 b1 b] : Fin 3 → EReal) i * q0 (ix2 j i)) 0
          * q1 (ix2 l j) := by
  simp only [Fin.sum_univ_three]
  pointwise [k0_pay16, k0_pay8, k0_pay9, k0_pay10, k0_pay11, k0_pay12, k0_pay13, k0_pay14, k0_pay18, headAt, head, Fin.sum_univ_three]

/-- The epilogue at a segment: the return's columns against the first weights, the cost tower against the last. -/
theorem epilogue_apply (p : Vec Ideal S512x64 .f32) (f0 c0 b0 : Vec Ideal S64x32 .f32) (f1 c1 b1 : Vec Ideal S1x64 .f32)
    (q0 : Vec Ideal S64x3 .f32) (q1 : Vec Ideal S32x64 .f32) (q : Vec Ideal S1x64 .f32) (b : Fin 512) :
    epilogue p (k0_pay8 f0) (k0_pay9 c0) (k0_pay10 b0) (k0_pay11 f1) (k0_pay12 c1) (k0_pay13 b1) (k0_pay14 q0) (k0_pay18 q1)
        (k0_pay19 q) (ix2 b (0 : Fin 1))
      = logit (fun k => q (ix2 0 k)) (fun k => p (ix2 b (⟨32 + k.val, by omega⟩ : Fin 64)))
          (cost (fun j i => q0 (ix2 j i)) (fun l j => q1 (ix2 l j)) ![headAt p f0 f1 b, headAt p c0 c1 b, headAt p b0 b1 b]) := by
  unfold epilogue logit cost
  simp only [← pay16_apply]
  generalize k0_pay16 p _ _ _ _ _ _ _ _ = z
  pointwise [k0_pay2, k0_pay15, k0_pay17, k0_pay19]

end Cert.KernelIdeal.Own
-- ==== Proof.KernelValue.lean ====
/- The kernel's result at a segment, as the network's formula over the argument arrays. -/
module

public import proofs.«01_k».proof.Proof.Epilogue
public import proofs.«01_k».proof.Proof.Value

@[expose] public section

set_option maxRecDepth 16384

noncomputable section

namespace Cert.KernelIdeal.Own

open Idealize.ShloMosaic Idealize.ShloMosaic.TcCoe Idealize.ShloMosaic.Tactic
open Idealize.SL Idealize.SL.Sem
open Cert.KernelIdeal.Gen Cert.Model Cert VecWindow

/-- The upper half's rows are the block's first. -/
theorem upper_apply (x : Vec Ideal S16384x128 .f32) (r : Fin 8192) (f : Fin 128) :
    upper x (ix2 r f) = x (ix2 (⟨r.val, by omega⟩ : Fin 16384) f) := by
  unfold upper window
  refine congrArg x (funext fun a => Fin.ext ?_)
  rw [Rect.emb_apply]
  fin_cases a <;> simp

/-- The lower half's rows are the block's last. -/
theorem lower_apply (x : Vec Ideal S16384x128 .f32) (r : Fin 8192) (f : Fin 128) :
    lower x (ix2 r f) = x (ix2 (⟨8192 + r.val, by omega⟩ : Fin 16384) f) := by
  unfold lower window
  refine congrArg x (funext fun a => Fin.ext ?_)
  rw [Rect.emb_apply]
  fin_cases a <;> simp

/-- The input's row `16384 t + r` is row `r` of point `t`'s block. -/
def Blocks (x : Fin cfg0.N → Vec Ideal S16384x128 .f32) (X : Fin 131072 → Fin 128 → EReal) : Prop :=
  ∀ (t : Fin cfg0.N) (r : Fin 16384) (f : Fin 128) (h : 16384 * t.val + r.val < 131072),
    x t (ix2 r f) = X ⟨16384 * t.val + r.val, h⟩ f

/-- A segment's rows lie in the upper half of its point's block or in the lower: either way the pooled row is the
    segment's. -/
theorem pooledAll_apply (w1 : Vec Ideal S128x256 .f32) (w2 : Vec Ideal S256x128 .f32) (x : Fin cfg0.N → Vec Ideal S16384x128 .f32)
    (X : Fin 131072 → Fin 128 → EReal) (hx : Blocks x X) (b : Fin 512) (l : Fin 64) :
    pooledAll w1 w2 x (ix2 b l) = segment w1 w2 (rows X b) ⟨l.val, by omega⟩ := by
  have ht : (rowPoint (ix2 b l)).val = b.val / 64 := rfl
  unfold pooledAll
  rw [pooledStep_apply]
  generalize rowPoint (ix2 b l) = t at ht
  have hb := b.isLt
  by_cases h : 64 * t.val + 32 ≤ b.val
  · have h' : 64 * t.val + 32 ≤ b.val ∧ b.val < 64 * t.val + 32 + 32 := ⟨h, by omega⟩
    refine (dif_pos h').trans ((pay21_apply w1 w2 _ _ l).trans (half_eq _ _ _ _ _ _ fun n f => ?_))
    rw [lower_apply, hx t _ f (by dsimp only [ix2]; omega)]
    unfold rows
    congr 1
    refine Fin.ext ?_
    show 16384 * t.val + (8192 + ((b.val - (64 * t.val + 32)) * 256 + n.val)) = 256 * b.val + n.val
    omega
  · have h1 : ¬ (64 * t.val + 32 ≤ b.val ∧ b.val < 64 * t.val + 32 + 32) := fun hh => h hh.1
    have h2 : 64 * t.val ≤ b.val ∧ b.val < 64 * t.val + 32 := by omega
    refine (dif_neg h1).trans ((dif_pos h2).trans ((pay20_apply w1 w2 _ _ l).trans (half_eq _ _ _ _ _ _ fun n f => ?_)))
    rw [upper_apply, hx t _ f (by dsimp only [ix2]; omega)]
    unfold rows
    congr 1
    refine Fin.ext ?_
    show 16384 * t.val + ((b.val - 64 * t.val) * 256 + n.val) = 256 * b.val + n.val
    omega

end Cert.KernelIdeal.Own
-- ==== Proof.Blocks.lean ====
/- Every window's block in terms of the argument arrays. -/
module

public import proofs.«01_k».proof.Proof.KernelValue

@[expose] public section

set_option maxRecDepth 16384

noncomputable section

namespace Cert.KernelIdeal.Own

open Idealize.ShloMosaic Idealize.ShloMosaic.TcCoe Idealize.ShloMosaic.Tactic
open Idealize.SL Idealize.SL.Sem
open Cert.KernelIdeal.Gen Cert.Model

variable (m : (ℓ : Loc nD τ sig) → Buf (Elt Ideal) ℓ)

/-- The weights as the first point reads them: each block is the whole argument. -/
theorem weights (c : Dev nD) :
    iblk m c 1 t0 = m ((c : Thread nD τ).loc main_arg1) ∧ iblk m c 2 t0 = m ((c : Thread nD τ).loc main_arg3)
      ∧ iblk m c 3 t0 = m ((c : Thread nD τ).loc main_arg5) ∧ iblk m c 4 t0 = m ((c : Thread nD τ).loc main_arg7)
      ∧ iblk m c 5 t0 = m ((c : Thread nD τ).loc main_arg9) ∧ iblk m c 6 t0 = m ((c : Thread nD τ).loc main_arg11)
      ∧ iblk m c 7 t0 = m ((c : Thread nD τ).loc main_arg13) ∧ iblk m c 8 t0 = m ((c : Thread nD τ).loc main_arg15)
      ∧ iblk m c 9 t0 = m ((c : Thread nD τ).loc main_arg17) ∧ iblk m c 10 t0 = m ((c : Thread nD τ).loc main_arg19)
      ∧ iblk m c 11 t0 = m ((c : Thread nD τ).loc main_arg21) ∧ iblk m c 12 t0 = m ((c : Thread nD τ).loc main_arg23)
      ∧ iblk m c 13 t0 = m ((c : Thread nD τ).loc main_arg25) := by
  refine ⟨Eq.trans (funext fun y => ?_) (V_main_arg1 m c), Eq.trans (funext fun y => ?_) (V_main_arg3 m c),
    Eq.trans (funext fun y => ?_) (V_main_arg5 m c), Eq.trans (funext fun y => ?_) (V_main_arg7 m c),
    Eq.trans (funext fun y => ?_) (V_main_arg9 m c), Eq.trans (funext fun y => ?_) (V_main_arg11 m c),
    Eq.trans (funext fun y => ?_) (V_main_arg13 m c), Eq.trans (funext fun y => ?_) (V_main_arg15 m c),
    Eq.trans (funext fun y => ?_) (V_main_arg17 m c), Eq.trans (funext fun y => ?_) (V_main_arg19 m c),
    Eq.trans (funext fun y => ?_) (V_main_arg21 m c), Eq.trans (funext fun y => ?_) (V_main_arg23 m c),
    Eq.trans (funext fun y => ?_) (V_main_arg25 m c)⟩ <;>
  (blk_ext [iblk] <;> first | exact Nat.zero_add _ | rfl)

/-- The flat array of observations. -/
def flat (c : Dev nD) : Vec Ideal S131072x128 .f32 :=
  shapeCast S131072x128 (m ((c : Thread nD τ).loc main_arg0) : Vec Ideal S16x32x256x128 .f32) shapeCasts_S16x32x256x128_S131072x128

/-- The region's first operand is the flat array. -/
theorem V_flat (c : Dev nD) : V m c main_v0 = flat m c := by
  show StableHlo.after hostOps0 (fun b => m (c, b)) (Proc.devRef .tc main_v0) = _
  after_results
  rfl

/-- The input's blocks are the flat array's, 16384 rows a point. -/
theorem blocks_flat (c : Dev nD) : Blocks (xs m c) (fun r f => flat m c (ix2 r f)) := by
  intro t r f h
  show _ = flat m c _
  rw [← V_flat]
  unfold xs
  have e : ∀ t : Fin cfg0.N, win0_0.index t 0 = t.val := by decide +kernel
  blk_ext [iblk, e t]
  exact Nat.zero_add _

/-- A pooled row of the run's array: the first tower's 32 columns. -/
theorem pooledM_left (c : Dev nD) (b : Fin 512) (l : Fin 32) :
    pooledM m c (ix2 b (⟨l.val, by omega⟩ : Fin 64))
      = pooled (fun k f => (m ((c : Thread nD τ).loc main_arg1) : Vec Ideal S128x128 .f32) (ix2 k f))
          (fun j k => (m ((c : Thread nD τ).loc main_arg3) : Vec Ideal S32x128 .f32) (ix2 j k))
          (rows (fun r f => flat m c (ix2 r f)) b) l := by
  obtain ⟨h1, h2, h3, h4, -⟩ := weights m c
  unfold pooledM wA wB
  rw [pooledAll_apply _ _ _ _ (blocks_flat m c), h1, h2, h3, h4]
  exact segment_left _ _ _ _ _ _

/-- The second tower's 32 columns. -/
theorem pooledM_right (c : Dev nD) (b : Fin 512) (l : Fin 32) :
    pooledM m c (ix2 b (⟨32 + l.val, by omega⟩ : Fin 64))
      = pooled (fun k f => (m ((c : Thread nD τ).loc main_arg5) : Vec Ideal S128x128 .f32) (ix2 k f))
          (fun j k => (m ((c : Thread nD τ).loc main_arg7) : Vec Ideal S32x128 .f32) (ix2 j k))
          (rows (fun r f => flat m c (ix2 r f)) b) l := by
  obtain ⟨h1, h2, h3, h4, -⟩ := weights m c
  unfold pooledM wA wB
  rw [pooledAll_apply _ _ _ _ (blocks_flat m c), h1, h2, h3, h4]
  exact segment_right _ _ _ _ _ _

/-- What the run's last point stores for a segment is the network's output. -/
theorem outM_apply (c : Dev nD) (b : Fin 512) :
    outM m c (ix2 b (0 : Fin 1))
      = net (flat m c) (m ((c : Thread nD τ).loc main_arg1)) (m ((c : Thread nD τ).loc main_arg3))
          (m ((c : Thread nD τ).loc main_arg5)) (m ((c : Thread nD τ).loc main_arg7)) (m ((c : Thread nD τ).loc main_arg9))
          (m ((c : Thread nD τ).loc main_arg11)) (m ((c : Thread nD τ).loc main_arg13)) (m ((c : Thread nD τ).loc main_arg15))
          (m ((c : Thread nD τ).loc main_arg17)) (m ((c : Thread nD τ).loc main_arg19)) (m ((c : Thread nD τ).loc main_arg21))
          (m ((c : Thread nD τ).loc main_arg23)) (m ((c : Thread nD τ).loc main_arg25)) b := by
  obtain ⟨-, -, -, -, h5, h6, h7, h8, h9, h10, h11, h12, h13⟩ := weights m c
  unfold outM
  rw [h5, h6, h7, h8, h9, h10, h11, h12, h13]
  refine (epilogue_apply _ _ _ _ _ _ _ _ _ _ b).trans ?_
  unfold headAt
  simp only [pooledM_left, pooledM_right]
  rfl

/-- The program's result, entry by entry. -/
theorem result_apply (c : Dev nD) (i : Fin 16) (j : Fin 32) :
    (shapeCast S16x32 (outM m c) shapeCasts_S512x1_S16x32 : Vec Ideal S16x32 .f32) (ix2 i j)
      = outM m c (ix2 (⟨32 * i.val + j.val, by omega⟩ : Fin 512) (0 : Fin 1)) := by
  generalize outM m c = v
  pointwise
  congr 1
  idx_ext

end Cert.KernelIdeal.Own
-- ==== Proof.ReferenceTerm.lean ====
/- The reference's composed term in pieces: towers, pooling, heads, cost tower and logit. -/
module

public import proofs.«01_k».proof.Proof.Gen.ReferenceIdeal.Run

@[expose] public section

set_option maxRecDepth 16384

noncomputable section

namespace Cert.ReferenceIdeal.Own

open Cert.ReferenceIdeal Cert.ReferenceIdeal.Gen Cert.ReferenceIdeal.Value
open Idealize.ShloMosaic Idealize.ShloMosaic.TcCoe Idealize.SL.Sem

variable {F : FTy → Type} [FloatOps F]

/-- Two linear layers with biases, each rectified, at every row. -/
def towerR (x : FVec F S131072x128 .f32) (w0 : FVec F S128x128 .f32) (v0 : FVec F S128 .f32) (w1 : FVec F S32x128 .f32)
    (v1 : FVec F S32 .f32) : FVec F S131072x32 .f32 :=
  maximumf (addf (Host.dotGeneral dot_S131072x128_S128x32_S131072x32_1_0_0_1_n_n none
    (maximumf (addf (Host.dotGeneral dot_S131072x128_S128x128_S131072x128_1_0_0_1_n_n none x
        (transpose S128x128 [1, 0] w0 transposes_S128x128_S128x128_1_0))
      (broadcastInDim S131072x128 ![0, 1] bcast_S1x128_S131072x128_0_1 (broadcastInDim S1x128 ![1] bcast_S128_S1x128_1 v0)))
      (broadcastInDim S131072x128 ![] bcast_S_S131072x128 (constant S_ .f32 0x00000000#32)))
    (transpose S128x32 [1, 0] w1 transposes_S32x128_S128x32_1_0))
    (broadcastInDim S131072x32 ![0, 1] bcast_S1x32_S131072x32_0_1 (broadcastInDim S1x32 ![1] bcast_S32_S1x32_1 v1)))
    (broadcastInDim S131072x32 ![] bcast_S_S131072x32 (constant S_ .f32 0x00000000#32))

/-- The segment of every row. -/
def segments : IVec S131072x1 32 :=
  broadcastInDim S131072x1 ![0] bcast_S131072_S131072x1_0
    (shapeCast S131072 (broadcastInDim S512x256 ![0] bcast_S512_S512x256_0 (iotaInDim S512 32 0)) shapeCasts_S512x256_S131072)

/-- The rows summed segment by segment. -/
def poolR (h : FVec F S131072x32 .f32) : FVec F S512x32 .f32 :=
  Host.scatterAdd scatter_S512x32_S131072x1_S131072x32_1_0_0_1
    (broadcastInDim S512x32 ![] bcast_S_S512x32 (constant S_ .f32 0x00000000#32)) segments h

/-- One head at every segment. -/
def headR (p : FVec F S512x32 .f32) (w0 : FVec F S64x32 .f32) (v0 : FVec F S64 .f32) (w1 : FVec F S1x64 .f32) (v1 : FVec F S1 .f32) :
    FVec F S16x32x1 .f32 :=
  shapeCast S16x32x1 (shapeCast S512 (addf (Host.dotGeneral dot_S512x64_S64x1_S512x1_1_0_0_1_n_n none
    (maximumf (addf (Host.dotGeneral dot_S512x32_S32x64_S512x64_1_0_0_1_n_n none p
        (transpose S32x64 [1, 0] w0 transposes_S64x32_S32x64_1_0))
      (broadcastInDim S512x64 ![0, 1] bcast_S1x64_S512x64_0_1 (broadcastInDim S1x64 ![1] bcast_S64_S1x64_1 v0)))
      (broadcastInDim S512x64 ![] bcast_S_S512x64 (constant S_ .f32 0x00000000#32)))
    (transpose S64x1 [1, 0] w1 transposes_S1x64_S64x1_1_0))
    (broadcastInDim S512x1 ![0, 1] bcast_S1x1_S512x1_0_1 (broadcastInDim S1x1 ![1] bcast_S1_S1x1_1 v1)))
    shapeCasts_S512x1_S512) shapeCasts_S512_S16x32x1

/-- The three heads side by side. -/
def headsR (a b c : FVec F S16x32x1 .f32) : FVec F S16x32x3 .f32 :=
  concatenate S16x32x3 2 [⟨S16x32x1, a⟩, ⟨S16x32x1, b⟩, ⟨S16x32x1, c⟩] concatenates_S16x32x1_S16x32x1_S16x32x1_S16x32x3_d2

/-- The cost tower on the heads. -/
def costR (h : FVec F S16x32x3 .f32) (w0 : FVec F S64x3 .f32) (v0 : FVec F S64 .f32) (w1 : FVec F S32x64 .f32) (v1 : FVec F S32 .f32) :
    FVec F S16x32x32 .f32 :=
  maximumf (addf (Host.dotGeneral dot_S16x32x64_S64x32_S16x32x32_2_0_01_1_n_n none
    (maximumf (addf (Host.dotGeneral dot_S16x32x3_S3x64_S16x32x64_2_0_01_1_n_n none h
        (transpose S3x64 [1, 0] w0 transposes_S64x3_S3x64_1_0))
      (broadcastInDim S16x32x64 ![0, 1, 2] bcast_S1x1x64_S16x32x64_0_1_2 (broadcastInDim S1x1x64 ![2] bcast_S64_S1x1x64_2 v0)))
      (broadcastInDim S16x32x64 ![] bcast_S_S16x32x64 (constant S_ .f32 0x00000000#32)))
    (transpose S64x32 [1, 0] w1 transposes_S32x64_S64x32_1_0))
    (broadcastInDim S16x32x32 ![0, 1, 2] bcast_S1x1x32_S16x32x32_0_1_2 (broadcastInDim S1x1x32 ![2] bcast_S32_S1x1x32_2 v1)))
    (broadcastInDim S16x32x32 ![] bcast_S_S16x32x32 (constant S_ .f32 0x00000000#32))

/-- The logit from the pooled return and the cost. -/
def logitR (u : FVec F S512x32 .f32) (v : FVec F S16x32x32 .f32) (w : FVec F S1x64 .f32) (b : FVec F S1 .f32) : FVec F S16x32 .f32 :=
  shapeCast S16x32 (addf (Host.dotGeneral dot_S16x32x64_S64x1_S16x32x1_2_0_01_1_n_n none
    (concatenate S16x32x64 2 [⟨S16x32x32, shapeCast S16x32x32 u shapeCasts_S512x32_S16x32x32⟩, ⟨S16x32x32, v⟩]
      concatenates_S16x32x32_S16x32x32_S16x32x64_d2)
    (transpose S64x1 [1, 0] w transposes_S1x64_S64x1_1_0))
    (broadcastInDim S16x32x1 ![0, 1, 2] bcast_S1x1x1_S16x32x1_0_1_2 (broadcastInDim S1x1x1 ![2] bcast_S1_S1x1x1_2 b)))
    shapeCasts_S16x32x1_S16x32

/-- The observations as one flat array of rows. -/
def flatR (x : FVec F S16x32x256x128 .f32) : FVec F S131072x128 .f32 :=
  shapeCast S131072x128 x shapeCasts_S16x32x256x128_S131072x128

variable (m : (ℓ : Loc nD τ sig) → Buf (Elt F) ℓ)

/-- The pooled first tower of the launch's arguments. -/
def pooledR (c : Dev nD) : FVec F S512x32 .f32 :=
  poolR (towerR (flatR (m ((c.tc : Thread nD τ).loc main_arg0))) (m ((c.tc : Thread nD τ).loc main_arg1)) (m ((c.tc : Thread nD τ).loc main_arg2))
    (m ((c.tc : Thread nD τ).loc main_arg3)) (m ((c.tc : Thread nD τ).loc main_arg4)))

/-- The reference's result is its pieces put together. -/
theorem result_pieces (c : Dev nD) :
    res_main_v93 m c
      = logitR (poolR (towerR (flatR (m ((c.tc : Thread nD τ).loc main_arg0))) (m ((c.tc : Thread nD τ).loc main_arg5))
            (m ((c.tc : Thread nD τ).loc main_arg6)) (m ((c.tc : Thread nD τ).loc main_arg7)) (m ((c.tc : Thread nD τ).loc main_arg8))))
          (costR (headsR
              (headR (pooledR m c) (m ((c.tc : Thread nD τ).loc main_arg9)) (m ((c.tc : Thread nD τ).loc main_arg10))
                (m ((c.tc : Thread nD τ).loc main_arg11)) (m ((c.tc : Thread nD τ).loc main_arg12)))
              (headR (pooledR m c) (m ((c.tc : Thread nD τ).loc main_arg13)) (m ((c.tc : Thread nD τ).loc main_arg14))
                (m ((c.tc : Thread nD τ).loc main_arg15)) (m ((c.tc : Thread nD τ).loc main_arg16)))
              (headR (pooledR m c) (m ((c.tc : Thread nD τ).loc main_arg17)) (m ((c.tc : Thread nD τ).loc main_arg18))
                (m ((c.tc : Thread nD τ).loc main_arg19)) (m ((c.tc : Thread nD τ).loc main_arg20))))
            (m ((c.tc : Thread nD τ).loc main_arg21)) (m ((c.tc : Thread nD τ).loc main_arg22))
            (m ((c.tc : Thread nD τ).loc main_arg23)) (m ((c.tc : Thread nD τ).loc main_arg24)))
          (m ((c.tc : Thread nD τ).loc main_arg25)) (m ((c.tc : Thread nD τ).loc main_arg26)) := rfl

end Cert.ReferenceIdeal.Own
-- ==== Proof.Landing.lean ====
/- A scatter of whole rows: where an update lands, and what the additive scatter holds over the extended reals. -/
module

public import Idealize.ShloMosaic.Lib.Routing.OpsPair
public import Idealize.ShloMosaic.Lib.Pointwise

@[expose] public section

noncomputable section

namespace Cert.Landing

open Idealize.ShloMosaic

variable {S N C : ℕ}

/-- A scatter of `N` rows of `C` entries into `S` rows, one index word a row: entry `(r, c)` of the updates lands in
    column `c` of the row that its index word names. -/
theorem lands (d : ScatterDims (⟨2, ![S, C]⟩ : Shape) (⟨2, ![N, 1]⟩ : Shape) (⟨2, ![N, C]⟩ : Shape))
    (hu : d.updateWindowDims = [1]) (hi : d.insertedWindowDims = [0]) (hs : d.scatterDimsToOperandDims = [0])
    (hv : d.indexVectorDim = 1) {w : ℕ} (idx : IVec (⟨2, ![N, 1]⟩ : Shape) w) (r : Fin N) (c : Fin C) (b : Fin S) (e : Fin C) :
    d.resultIdx? (ix2 r c) idx = some (ix2 b e) ↔ (idx (ix2 r 0)).toInt = (b.val : Int) ∧ c = e := by
  obtain ⟨uw, iw, sd, iv, wf⟩ := d
  simp only at hu hi hs hv
  subst hu hi hs hv
  have h0 : ScatterDims.start (⟨[1], [0], [0], 1, wf⟩ : ScatterDims (⟨2, ![S, C]⟩ : Shape) (⟨2, ![N, 1]⟩ : Shape) (⟨2, ![N, C]⟩ : Shape))
      (ix2 r c) idx 0 = (idx (ix2 r 0)).toInt := by
    unfold ScatterDims.start
    rw [dif_pos (by simp)]
    congr 2
    funext a
    fin_cases a <;> rfl
  have h1 : ScatterDims.start (⟨[1], [0], [0], 1, wf⟩ : ScatterDims (⟨2, ![S, C]⟩ : Shape) (⟨2, ![N, 1]⟩ : Shape) (⟨2, ![N, C]⟩ : Shape))
      (ix2 r c) idx 1 = 0 := by
    unfold ScatterDims.start
    rw [dif_neg (by simp)]
  have w0 : ScatterDims.window (⟨[1], [0], [0], 1, wf⟩ : ScatterDims (⟨2, ![S, C]⟩ : Shape) (⟨2, ![N, 1]⟩ : Shape) (⟨2, ![N, C]⟩ : Shape))
      (ix2 r c) 0 = 0 := by
    unfold ScatterDims.window
    rw [dif_neg (by simp [Shape.kept])]
  have w1 : ScatterDims.window (⟨[1], [0], [0], 1, wf⟩ : ScatterDims (⟨2, ![S, C]⟩ : Shape) (⟨2, ![N, 1]⟩ : Shape) (⟨2, ![N, C]⟩ : Shape))
      (ix2 r c) 1 = c.val := by
    unfold ScatterDims.window
    rw [dif_pos (by simp [Shape.kept])]
    rfl
  rw [Routing.resultIdx?_eq_some]
  refine (Fin.forall_fin_two (p := fun a => _ = (((ix2 b e : (⟨2, ![S, C]⟩ : Shape).Idx) a).val : Int))).trans ?_
  rw [h0, h1, w0, w1, Fin.ext_iff]
  show (idx (ix2 r 0)).toInt + ((0 : ℕ) : Int) = (b.val : Int) ∧ (0 : Int) + (c.val : Int) = (e.val : Int) ↔ _
  omega

/-- The rows of one block of 256 among rows numbered through. -/
theorem sum_block {M : Type*} [AddCommMonoid M] (g : Fin 131072 → M) (b : Fin 512) :
    (∑ r : Fin 131072, if r.val / 256 = b.val then g r else 0) = ∑ n : Fin 256, g ⟨256 * b.val + n.val, by omega⟩ := by
  rw [← Finset.sum_filter]
  refine (Finset.sum_bij (fun (n : Fin 256) _ => (⟨256 * b.val + n.val, by omega⟩ : Fin 131072)) ?_ ?_ ?_ ?_).symm
  · intro n _
    simp only [Finset.mem_filter, Finset.mem_univ, true_and]
    omega
  · intro n _ k _ h
    have := congrArg Fin.val h
    simp only at this
    exact Fin.ext (by omega)
  · intro r hr
    have hb : r.val / 256 = b.val := (Finset.mem_filter.1 hr).2
    exact ⟨⟨r.val % 256, Nat.mod_lt _ (by omega)⟩, Finset.mem_univ _, Fin.ext (by simp only; omega)⟩
  · intro n _
    rfl

/-- Rows added up by segment, the segment of row `r` being `r / 256`: each segment holds the sum of its 256 rows. -/
theorem scatter_blocks (d : ScatterDims (⟨2, ![512, C]⟩ : Shape) (⟨2, ![131072, 1]⟩ : Shape) (⟨2, ![131072, C]⟩ : Shape))
    (hu : d.updateWindowDims = [1]) (hi : d.insertedWindowDims = [0]) (hs : d.scatterDimsToOperandDims = [0])
    (hv : d.indexVectorDim = 1) (x : FVec Ideal (⟨2, ![512, C]⟩ : Shape) .f32) (hx : ∀ i, x i = (0 : EReal))
    (idx : IVec (⟨2, ![131072, 1]⟩ : Shape) 32) (hidx : ∀ r : Fin 131072, (idx (ix2 r 0)).toInt = ((r.val / 256 : ℕ) : Int))
    (u : FVec Ideal (⟨2, ![131072, C]⟩ : Shape) .f32) (b : Fin 512) (c : Fin C) :
    Host.scatterAdd d x idx u (ix2 b c) = ∑ n : Fin 256, (u (ix2 (⟨256 * b.val + n.val, by omega⟩ : Fin 131072) c) : EReal) := by
  show (x (ix2 b c) : EReal) + ∑ j ∈ Finset.univ.filter (fun j => d.resultIdx? j idx = some (ix2 b c)), (u j : EReal) = _
  rw [hx, zero_add, Finset.sum_filter, sum_idx2]
  refine Eq.trans (Finset.sum_congr rfl fun r _ => ?_) (sum_block (fun r => (u (ix2 r c) : EReal)) b)
  simp only [lands d hu hi hs hv, hidx, Nat.cast_inj]
  by_cases h : r.val / 256 = b.val
  · simp [h]
  · simp [h]

end Cert.Landing
-- ==== Proof.ReferenceValue.lean ====
/- The reference's pieces at an index, the biases being zero. -/
module

public import proofs.«01_k».proof.Proof.ReferenceTerm
public import proofs.«01_k».proof.Proof.Net
public import proofs.«01_k».proof.Proof.Landing

@[expose] public section

set_option maxRecDepth 16384

noncomputable section

namespace Cert.ReferenceIdeal.Own

open Cert.ReferenceIdeal Cert.ReferenceIdeal.Gen
open Idealize.ShloMosaic Cert.Model

/-- A tower without biases at a row and a column. -/
theorem towerR_apply (x : FVec Ideal S131072x128 .f32) (w0 : FVec Ideal S128x128 .f32) (v0 : FVec Ideal S128 .f32)
    (w1 : FVec Ideal S32x128 .f32) (v1 : FVec Ideal S32 .f32) (h0 : ∀ k, v0 k = (0 : EReal)) (h1 : ∀ k, v1 k = (0 : EReal))
    (r : Fin 131072) (c : Fin 32) :
    towerR x w0 v0 w1 v1 (ix2 r c) = tower (fun k f => w0 (ix2 k f)) (fun j k => w1 (ix2 j k)) (fun f => x (ix2 r f)) c := by
  unfold tower
  pointwise [towerR, h0, h1]

/-- The segment of row `r` is `r / 256`. -/
theorem segments_apply (r : Fin 131072) : (segments (ix2 r 0)).toInt = ((r.val / 256 : ℕ) : Int) := by
  have e : segments (ix2 r 0) = BitVec.ofNat 32 (r.val / 256) := by
    pointwise [segments]
  rw [e, BitVec.toInt_eq_toNat_of_lt (by rw [BitVec.toNat_ofNat]; omega), BitVec.toNat_ofNat]
  omega

/-- The pooled rows at a segment and a column. -/
theorem poolR_apply (h : FVec Ideal S131072x32 .f32) (b : Fin 512) (c : Fin 32) :
    poolR h (ix2 b c) = ∑ n : Fin 256, (h (ix2 (⟨256 * b.val + n.val, by omega⟩ : Fin 131072) c) : EReal) := by
  unfold poolR
  exact Landing.scatter_blocks _ rfl rfl rfl rfl _ (fun i => by pointwise) _ segments_apply h b c

/-- A head without biases at a segment. -/
theorem headR_apply (p : FVec Ideal S512x32 .f32) (w0 : FVec Ideal S64x32 .f32) (v0 : FVec Ideal S64 .f32) (w1 : FVec Ideal S1x64 .f32)
    (v1 : FVec Ideal S1 .f32) (h0 : ∀ k, v0 k = (0 : EReal)) (h1 : ∀ k, v1 k = (0 : EReal)) (i : Fin 16) (j : Fin 32) :
    headR p w0 v0 w1 v1 (ix3 i j (0 : Fin 1))
      = head (fun a k => w0 (ix2 a k)) (fun a => w1 (ix2 0 a)) (fun k => p (ix2 (⟨32 * i.val + j.val, by omega⟩ : Fin 512) k)) := by
  unfold head
  rw [show (⟨32 * i.val + j.val, by omega⟩ : Fin 512) = ⟨i.val * 32 + j.val, by omega⟩ from Fin.ext (by show 32 * i.val + j.val = i.val * 32 + j.val; omega)]
  pointwise [headR, h0, h1]

/-- The cost tower without biases at a segment and a column, from the three heads there. -/
theorem costR_apply (a b c : FVec Ideal S16x32x1 .f32) (w0 : FVec Ideal S64x3 .f32) (v0 : FVec Ideal S64 .f32) (w1 : FVec Ideal S32x64 .f32)
    (v1 : FVec Ideal S32 .f32) (h0 : ∀ k, v0 k = (0 : EReal)) (h1 : ∀ k, v1 k = (0 : EReal)) (i : Fin 16) (j : Fin 32) (l : Fin 32) :
    costR (headsR a b c) w0 v0 w1 v1 (ix3 i j l)
      = cost (fun a k => w0 (ix2 a k)) (fun a k => w1 (ix2 a k)) ![a (ix3 i j 0), b (ix3 i j 0), c (ix3 i j 0)] l := by
  unfold cost
  simp only [Fin.sum_univ_three]
  pointwise [costR, headsR, h0, h1, Fin.sum_univ_three]

/-- The logit without bias at a segment. -/
theorem logitR_apply (u : FVec Ideal S512x32 .f32) (v : FVec Ideal S16x32x32 .f32) (w : FVec Ideal S1x64 .f32) (b : FVec Ideal S1 .f32)
    (h : ∀ k, b k = (0 : EReal)) (i : Fin 16) (j : Fin 32) :
    logitR u v w b (ix2 i j)
      = logit (fun k => w (ix2 0 k)) (fun k => u (ix2 (⟨32 * i.val + j.val, by omega⟩ : Fin 512) k)) (fun k => v (ix3 i j k)) := by
  unfold logit
  rw [show (⟨32 * i.val + j.val, by omega⟩ : Fin 512) = ⟨i.val * 32 + j.val, by omega⟩ from Fin.ext (by show 32 * i.val + j.val = i.val * 32 + j.val; omega)]
  pointwise [logitR, h]

end Cert.ReferenceIdeal.Own
-- ==== Proof.ReferenceNet.lean ====
/- The reference's result at a segment is the network's output, the biases being zero. -/
module

public import proofs.«01_k».proof.Proof.ReferenceValue

@[expose] public section

set_option maxRecDepth 16384

noncomputable section

namespace Cert.ReferenceIdeal.Own

open Cert.ReferenceIdeal Cert.ReferenceIdeal.Gen
open Idealize.ShloMosaic Cert.Model

/-- A pooled tower without biases at a segment and a column. -/
theorem pooledTower_apply (x : FVec Ideal S131072x128 .f32) (w0 : FVec Ideal S128x128 .f32) (v0 : FVec Ideal S128 .f32)
    (w1 : FVec Ideal S32x128 .f32) (v1 : FVec Ideal S32 .f32) (h0 : ∀ k, v0 k = (0 : EReal)) (h1 : ∀ k, v1 k = (0 : EReal))
    (b : Fin 512) (c : Fin 32) :
    poolR (towerR x w0 v0 w1 v1) (ix2 b c)
      = pooled (fun k f => w0 (ix2 k f)) (fun j k => w1 (ix2 j k)) (rows (fun r f => x (ix2 r f)) b) c := by
  rw [poolR_apply]
  simp only [towerR_apply x w0 v0 w1 v1 h0 h1]
  rfl

/-- The pieces put together, every bias zero, are the network's output. -/
theorem pieces_net (x : FVec Ideal S131072x128 .f32) (t0 : FVec Ideal S128x128 .f32) (t0b : FVec Ideal S128 .f32)
    (t1 : FVec Ideal S32x128 .f32) (t1b : FVec Ideal S32 .f32) (r0 : FVec Ideal S128x128 .f32) (r0b : FVec Ideal S128 .f32)
    (r1 : FVec Ideal S32x128 .f32) (r1b : FVec Ideal S32 .f32) (f0 : FVec Ideal S64x32 .f32) (f0b : FVec Ideal S64 .f32)
    (f1 : FVec Ideal S1x64 .f32) (f1b : FVec Ideal S1 .f32) (c0 : FVec Ideal S64x32 .f32) (c0b : FVec Ideal S64 .f32)
    (c1 : FVec Ideal S1x64 .f32) (c1b : FVec Ideal S1 .f32) (b0 : FVec Ideal S64x32 .f32) (b0b : FVec Ideal S64 .f32)
    (b1 : FVec Ideal S1x64 .f32) (b1b : FVec Ideal S1 .f32) (q0 : FVec Ideal S64x3 .f32) (q0b : FVec Ideal S64 .f32)
    (q1 : FVec Ideal S32x64 .f32) (q1b : FVec Ideal S32 .f32) (w : FVec Ideal S1x64 .f32) (wb : FVec Ideal S1 .f32)
    (h2 : ∀ k, t0b k = (0 : EReal)) (h4 : ∀ k, t1b k = (0 : EReal)) (h6 : ∀ k, r0b k = (0 : EReal)) (h8 : ∀ k, r1b k = (0 : EReal))
    (h10 : ∀ k, f0b k = (0 : EReal)) (h12 : ∀ k, f1b k = (0 : EReal)) (h14 : ∀ k, c0b k = (0 : EReal)) (h16 : ∀ k, c1b k = (0 : EReal))
    (h18 : ∀ k, b0b k = (0 : EReal)) (h20 : ∀ k, b1b k = (0 : EReal)) (h22 : ∀ k, q0b k = (0 : EReal)) (h24 : ∀ k, q1b k = (0 : EReal))
    (h26 : ∀ k, wb k = (0 : EReal)) (i : Fin 16) (j : Fin 32) :
    logitR (poolR (towerR x r0 r0b r1 r1b))
        (costR (headsR (headR (poolR (towerR x t0 t0b t1 t1b)) f0 f0b f1 f1b) (headR (poolR (towerR x t0 t0b t1 t1b)) c0 c0b c1 c1b)
          (headR (poolR (towerR x t0 t0b t1 t1b)) b0 b0b b1 b1b)) q0 q0b q1 q1b) w wb (ix2 i j)
      = net x t0 t1 r0 r1 f0 f1 c0 c1 b0 b1 q0 q1 w ⟨32 * i.val + j.val, by omega⟩ := by
  rw [logitR_apply _ _ _ _ h26]
  simp only [pooledTower_apply x r0 r0b r1 r1b h6 h8, costR_apply _ _ _ _ _ _ _ h22 h24, headR_apply _ _ _ _ _ h10 h12,
    headR_apply _ _ _ _ _ h14 h16, headR_apply _ _ _ _ _ h18 h20, pooledTower_apply x t0 t0b t1 t1b h2 h4]
  rfl

end Cert.ReferenceIdeal.Own
-- ==== Proof.Biases.lean ====
/- What the precondition says: every bias is zero. -/
module

public import proofs.«01_k».proof.Proof.Gen.Pre_zero_biases
public import Idealize.ShloMosaic.Lib.ReduceAll
public import Idealize.ShloMosaic.Lib.Pointwise

@[expose] public section

set_option maxRecDepth 16384

noncomputable section

namespace Cert.Biases

open Idealize.ShloMosaic Cert.Pre_zero_biases Cert.Pre_zero_biases.Gen

/-- A conjunction of two truth words is true when both are. -/
theorem both (a b : BitVec 1) : IntOp.andi a b = 1#1 ↔ a = 1#1 ∧ b = 1#1 := by
  revert a b
  decide

/-- An array compared equal to zero everywhere is zero everywhere. -/
theorem all_zero {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .oeq x (broadcastInDim s ![] hb (constant S_ .f32 0x00000000#32))) (constantI S_ 1 1#1) hr hu j = 1#1)
    (k : s.Idx) : x k = (0 : EReal) := by
  haveI : Subsingleton S_.Idx := ⟨fun a b => funext fun i => i.elim0⟩
  have h := Host.reduce_andi_all _ _ hr hu j e k
  have h' : BitVec.ofBool (decide ((x k : EReal) = Ideal.ofBits .f32 0x00000000#32)) = 1#1 := h
  rw [Ideal.ofBits_zero_f32] at h'
  by_contra hne
  rw [decide_eq_false hne] at h'
  exact absurd h' (by decide)

/-- The precondition makes each of the thirteen bias vectors zero. -/
theorem biases_zero (a0 : FVec Ideal S16x32x256x128 .f32) (a1 : FVec Ideal S128x128 .f32) (a2 : FVec Ideal S128 .f32)
    (a3 : FVec Ideal S32x128 .f32) (a4 : FVec Ideal S32 .f32) (a5 : FVec Ideal S128x128 .f32) (a6 : FVec Ideal S128 .f32)
    (a7 : FVec Ideal S32x128 .f32) (a8 : FVec Ideal S32 .f32) (a9 : FVec Ideal S64x32 .f32) (a10 : FVec Ideal S64 .f32)
    (a11 : FVec Ideal S1x64 .f32) (a12 : FVec Ideal S1 .f32) (a13 : FVec Ideal S64x32 .f32) (a14 : FVec Ideal S64 .f32)
    (a15 : FVec Ideal S1x64 .f32) (a16 : FVec Ideal S1 .f32) (a17 : FVec Ideal S64x32 .f32) (a18 : FVec Ideal S64 .f32)
    (a19 : FVec Ideal S1x64 .f32) (a20 : FVec Ideal S1 .f32) (a21 : FVec Ideal S64x3 .f32) (a22 : FVec Ideal S64 .f32)
    (a23 : FVec Ideal S32x64 .f32) (a24 : FVec Ideal S32 .f32) (a25 : FVec Ideal S1x64 .f32) (a26 : FVec Ideal S1 .f32)
    (h : fn (F := Ideal) a0 a1 a2 a3 a4 a5 a6 a7 a8 a9 a10 a11 a12 a13 a14 a15 a16 a17 a18 a19 a20 a21 a22 a23 a24 a25 a26
      = fun _ => 1#1) :
    (∀ k, a2 k = (0 : EReal)) ∧ (∀ k, a4 k = (0 : EReal)) ∧ (∀ k, a6 k = (0 : EReal)) ∧ (∀ k, a8 k = (0 : EReal))
      ∧ (∀ k, a10 k = (0 : EReal)) ∧ (∀ k, a12 k = (0 : EReal)) ∧ (∀ k, a14 k = (0 : EReal)) ∧ (∀ k, a16 k = (0 : EReal))
      ∧ (∀ k, a18 k = (0 : EReal)) ∧ (∀ k, a20 k = (0 : EReal)) ∧ (∀ k, a22 k = (0 : EReal)) ∧ (∀ k, a24 k = (0 : EReal))
      ∧ (∀ k, a26 k = (0 : EReal)) := by
  have e := congrFun h ix0
  unfold fn fn_part1 fn_part2 fn_part3 at e
  simp only [andi, both, and_assoc] at e
  obtain ⟨e2, e4, e6, e8, e10, e12, e14, e16, e18, e20, e22, e24, e26⟩ := e
  exact ⟨all_zero _ _ _ _ _ e2, all_zero _ _ _ _ _ e4, all_zero _ _ _ _ _ e6, all_zero _ _ _ _ _ e8, all_zero _ _ _ _ _ e10,
    all_zero _ _ _ _ _ e12, all_zero _ _ _ _ _ e14, all_zero _ _ _ _ _ e16, all_zero _ _ _ _ _ e18, all_zero _ _ _ _ _ e20,
    all_zero _ _ _ _ _ e22, all_zero _ _ _ _ _ e24, all_zero _ _ _ _ _ e26⟩

end Cert.Biases
-- ==== Proof.Algebraic.lean ====
/- Kernel and reference hold the same result over the extended reals. -/
module

public import proofs.«01_k».proof.Proof.Frames
public import proofs.«01_k».proof.Proof.Blocks
public import proofs.«01_k».proof.Proof.ReferenceNet
public import proofs.«01_k».proof.Proof.Biases
public import Idealize.ShloMosaic.Lib.Claim

@[expose] public section

set_option maxRecDepth 16384

noncomputable section

namespace Cert.Proof

open Idealize.ShloMosaic Idealize.ShloMosaic.TcCoe Idealize.SL.Sem

/-- The kernel's run: the returned array is the reshape of what the last point stores, the arguments as launched. -/
theorem kernel_run (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal))) ⟨m, fun _ => 0, g⟩
      fun r => ∀ c : Dev Cert.KernelIdeal.nD, r.2.mem ((c.tc : Thread Cert.KernelIdeal.nD Cert.KernelIdeal.τ).loc Cert.KernelIdeal.main_v2)
        = (shapeCast Cert.KernelIdeal.S16x32 (Cert.KernelIdeal.Own.outM m c) Cert.KernelIdeal.Gen.shapeCasts_S512x1_S16x32
            : Vec Ideal Cert.KernelIdeal.S16x32 .f32) :=
  (θ_run _ _ _).mono (fun _ h c => ((h.1 c).2 Cert.KernelIdeal.main_v2
    (Pipeline.mem_restRefs_of Cert.KernelIdeal.main_v2 (by decide) (by decide))).trans (Cert.KernelIdeal.Own.result m c))
    (Cert.KernelIdeal.Own.run_full m g)

/-- The reference's frame: its arguments end as launched; it has no counters. -/
theorem referenceIdeal_frame : Cert.quiescent_ReferenceIdeal := fun m g _ =>
  (θ_run _ _ _).mono (fun r h => ⟨fun c => (h c).2, sem_eq_zero_of_no_sems (by decide) r.2⟩) (Cert.ReferenceIdeal.Value.run m g)

/-- The claim over the extended reals: with every bias zero, kernel and reference return one array. -/
theorem algebraic : Cert.algebraic_KernelIdeal_ReferenceIdeal_pre_zero_biases := by
  intro m g m' g' hpre hagree
  refine ⟨fun c => (shapeCast Cert.KernelIdeal.S16x32 (Cert.KernelIdeal.Own.outM m c) Cert.KernelIdeal.Gen.shapeCasts_S512x1_S16x32
    : Vec Ideal Cert.KernelIdeal.S16x32 .f32), ?_, ?_⟩
  · exact (θ_run _ _ _).mono (fun _ h c => ⟨h.1 c, h.2.1 c⟩) (θ_run_and (kernel_run m g) (kernelIdeal_frame m g trivial))
  · refine (θ_run _ _ _).mono (fun _ h c => ⟨(h c).1.trans ?_, (h c).2⟩) (Cert.ReferenceIdeal.Value.run m' g')
    obtain ⟨e0, e1, e2, e3, e4, e5, e6, e7, e8, e9, e10, e11, e12, e13, e14, e15, e16, e17, e18, e19, e20, e21, e22, e23, e24, e25, e26⟩ := hagree c
    obtain ⟨z2, z4, z6, z8, z10, z12, z14, z16, z18, z20, z22, z24, z26⟩ :=
      Cert.Biases.biases_zero _ _ _ _ _ _ _ _ _ _ _ _ _ _ _ _ _ _ _ _ _ _ _ _ _ _ _ (hpre c)
    refine (Cert.ReferenceIdeal.Own.result_pieces m' c).trans (funext fun y => ?_)
    rw [eq_ix2 y]
    refine (Cert.ReferenceIdeal.Own.pieces_net _ _ _ _ _ _ _ _ _ _ _ _ _ _ _ _ _ _ _ _ _ _ _ _ _ _ _
      (fun k => (congrFun e2 k).trans (z2 k)) (fun k => (congrFun e4 k).trans (z4 k)) (fun k => (congrFun e6 k).trans (z6 k))
      (fun k => (congrFun e8 k).trans (z8 k)) (fun k => (congrFun e10 k).trans (z10 k)) (fun k => (congrFun e12 k).trans (z12 k))
      (fun k => (congrFun e14 k).trans (z14 k)) (fun k => (congrFun e16 k).trans (z16 k)) (fun k => (congrFun e18 k).trans (z18 k))
      (fun k => (congrFun e20 k).trans (z20 k)) (fun k => (congrFun e22 k).trans (z22 k)) (fun k => (congrFun e24 k).trans (z24 k))
      (fun k => (congrFun e26 k).trans (z26 k)) (y 0) (y 1)).trans ?_
    refine Eq.trans ?_ ((Cert.KernelIdeal.Own.result_apply m c (y 0) (y 1)).trans (Cert.KernelIdeal.Own.outM_apply m c _)).symm
    exact Cert.Model.net_congr (congrArg Cert.ReferenceIdeal.Own.flatR e0) e1 e3 e5 e7 e9 e11 e13 e15 e17 e19 e21 e23 e25 _

end Cert.Proof
-- ==== Proof.lean ====
/- The certificate: the kernel's frame, the idealized kernel's, the reference's, and the equation of the two over the
   extended reals. Proof/Memory, Cases, Run: what the body and the launch do; Value: what the run leaves; Weights, Block,
   Epilogue, KernelValue, Blocks: the kernel's result as the network's formula (Model, Net); Landing, ReferenceTerm,
   ReferenceValue, ReferenceNet: the reference's as the same; Biases: the precondition. -/
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.KernelIdeal.Frame
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_zero_biases

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_zero_biases.Gen.facts,
  kernel_frame, kernelIdeal_frame, fun m g _ => kernelIdeal_frame m g trivial, referenceIdeal_frame,
  fun m g _ => referenceIdeal_frame m g trivial, trivial, algebraic⟩

end Cert.Proof

end
